-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x2048 : Shape := ⟨2, ![4096, 2048]⟩
abbrev S1 : Shape := ⟨1, ![1]⟩
abbrev S256x2048 : Shape := ⟨2, ![256, 2048]⟩
abbrev S256x4096 : Shape := ⟨2, ![256, 4096]⟩
abbrev S4x256x2048 : Shape := ⟨3, ![4, 256, 2048]⟩
abbrev S16 : Shape := ⟨1, ![16]⟩
abbrev S4 : Shape := ⟨1, ![4]⟩
abbrev S_ : Shape := ⟨0, ![]⟩
abbrev S256x256 : Shape := ⟨2, ![256, 256]⟩
abbrev S1x256x2048 : Shape := ⟨3, ![1, 256, 2048]⟩
abbrev S2048x2048 : Shape := ⟨2, ![2048, 2048]⟩
abbrev S256x1792 : Shape := ⟨2, ![256, 1792]⟩
abbrev S1792x2048 : Shape := ⟨2, ![1792, 2048]⟩

abbrev nBuf : Space → Nat
  | .hbm => 5
  | .vmem => 6
  | .smem => 2
  | _ => 0

abbrev bufTy : (tb : Table) → Fin (tcTables nBuf tb) → BufTy
  | .hbm, ⟨0, _⟩ => ⟨S4096x256, .fp8e4m3⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S256x2048, .f32⟩
  | .local _ .vmem, ⟨0, _⟩ => ⟨S4096x256, .fp8e4m3⟩
  | .local _ .vmem, ⟨1, _⟩ => ⟨S256x2048, .f32⟩
  | .local _ .vmem, ⟨2, _⟩ => ⟨S4096x256, .fp8e4m3⟩
  | .local _ .vmem, ⟨3, _⟩ => ⟨S256x4096, .fp8e4m3⟩
  | .local _ .vmem, ⟨4, _⟩ => ⟨S4096x2048, .fp8e4m3⟩
  | .local _ .vmem, ⟨5, _⟩ => ⟨S4x256x2048, .f32⟩
  | .local _ .smem, ⟨0, _⟩ => ⟨S1, .f32⟩
  | .local _ .smem, ⟨1, _⟩ => ⟨S1, .f32⟩
  | _, _ => ⟨S4096x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v9 : BitVec 32 := Scalar.addi v2 c1_i32_3
  let c16_i32_4 : BitVec 32 := 16#32
  let v10 : BitVec 32 := Scalar.remsi v9 c16_i32_4
  let c1_i32_6 : BitVec 32 := 1#32
  let v11 : BitVec 32 := Scalar.muli v10 c1_i32_6
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v13 : BitVec 32 := Scalar.addi v2 c2_i32
  let c16_i32_7 : BitVec 32 := 16#32
  let v14 : BitVec 32 := Scalar.remsi v13 c16_i32_7
  let c1_i32_9 : BitVec 32 := 1#32
  let v15 : BitVec 32 := Scalar.muli v14 c1_i32_9
  let v16 : BitVec 32 := Scalar.addi c0_i32_10 v15
  v16.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v17 : BitVec 32 := Scalar.addi v2 c3_i32
  let c16_i32_11 : BitVec 32 := 16#32
  let v18 : BitVec 32 := Scalar.remsi v17 c16_i32_11
  let c1_i32_13 : BitVec 32 := 1#32
  let v19 : BitVec 32 := Scalar.muli v18 c1_i32_13
  let v20 : BitVec 32 := Scalar.addi c0_i32_14 v19
  v20.toNat
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v21 : BitVec 32 := Scalar.addi v2 c4_i32
  let c16_i32_15 : BitVec 32 := 16#32
  let v22 : BitVec 32 := Scalar.remsi v21 c16_i32_15
  let c1_i32_17 : BitVec 32 := 1#32
  let v23 : BitVec 32 := Scalar.muli v22 c1_i32_17
  let v24 : BitVec 32 := Scalar.addi c0_i32_18 v23
  v24.toNat
def k0_dev5 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v25 : BitVec 32 := Scalar.addi v2 c5_i32
  let c16_i32_19 : BitVec 32 := 16#32
  let v26 : BitVec 32 := Scalar.remsi v25 c16_i32_19
  let c1_i32_21 : BitVec 32 := 1#32
  let v27 : BitVec 32 := Scalar.muli v26 c1_i32_21
  let v28 : BitVec 32 := Scalar.addi c0_i32_22 v27
  v28.toNat
def k0_dev6 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v29 : BitVec 32 := Scalar.addi v2 c6_i32
  let c16_i32_23 : BitVec 32 := 16#32
  let v30 : BitVec 32 := Scalar.remsi v29 c16_i32_23
  let c1_i32_25 : BitVec 32 := 1#32
  let v31 : BitVec 32 := Scalar.muli v30 c1_i32_25
  let v32 : BitVec 32 := Scalar.addi c0_i32_26 v31
  v32.toNat
def k0_dev7 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v33 : BitVec 32 := Scalar.addi v2 c7_i32
  let c16_i32_27 : BitVec 32 := 16#32
  let v34 : BitVec 32 := Scalar.remsi v33 c16_i32_27
  let c1_i32_29 : BitVec 32 := 1#32
  let v35 : BitVec 32 := Scalar.muli v34 c1_i32_29
  let v36 : BitVec 32 := Scalar.addi c0_i32_30 v35
  v36.toNat
def k0_dev8 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v37 : BitVec 32 := Scalar.addi v2 c8_i32
  let c16_i32_31 : BitVec 32 := 16#32
  let v38 : BitVec 32 := Scalar.remsi v37 c16_i32_31
  let c1_i32_33 : BitVec 32 := 1#32
  let v39 : BitVec 32 := Scalar.muli v38 c1_i32_33
  let v40 : BitVec 32 := Scalar.addi c0_i32_34 v39
  v40.toNat
def k0_dev9 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v41 : BitVec 32 := Scalar.addi v2 c9_i32
  let c16_i32_35 : BitVec 32 := 16#32
  let v42 : BitVec 32 := Scalar.remsi v41 c16_i32_35
  let c1_i32_37 : BitVec 32 := 1#32
  let v43 : BitVec 32 := Scalar.muli v42 c1_i32_37
  let v44 : BitVec 32 := Scalar.addi c0_i32_38 v43
  v44.toNat
def k0_dev10 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v45 : BitVec 32 := Scalar.addi v2 c10_i32
  let c16_i32_39 : BitVec 32 := 16#32
  let v46 : BitVec 32 := Scalar.remsi v45 c16_i32_39
  let c1_i32_41 : BitVec 32 := 1#32
  let v47 : BitVec 32 := Scalar.muli v46 c1_i32_41
  let v48 : BitVec 32 := Scalar.addi c0_i32_42 v47
  v48.toNat
def k0_dev11 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v49 : BitVec 32 := Scalar.addi v2 c11_i32
  let c16_i32_43 : BitVec 32 := 16#32
  let v50 : BitVec 32 := Scalar.remsi v49 c16_i32_43
  let c1_i32_45 : BitVec 32 := 1#32
  let v51 : BitVec 32 := Scalar.muli v50 c1_i32_45
  let v52 : BitVec 32 := Scalar.addi c0_i32_46 v51
  v52.toNat
def k0_dev12 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v53 : BitVec 32 := Scalar.addi v2 c12_i32
  let c16_i32_47 : BitVec 32 := 16#32
  let v54 : BitVec 32 := Scalar.remsi v53 c16_i32_47
  let c1_i32_49 : BitVec 32 := 1#32
  let v55 : BitVec 32 := Scalar.muli v54 c1_i32_49
  let v56 : BitVec 32 := Scalar.addi c0_i32_50 v55
  v56.toNat
def k0_dev13 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v57 : BitVec 32 := Scalar.addi v2 c13_i32
  let c16_i32_51 : BitVec 32 := 16#32
  let v58 : BitVec 32 := Scalar.remsi v57 c16_i32_51
  let c1_i32_53 : BitVec 32 := 1#32
  let v59 : BitVec 32 := Scalar.muli v58 c1_i32_53
  let v60 : BitVec 32 := Scalar.addi c0_i32_54 v59
  v60.toNat
def k0_dev14 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v61 : BitVec 32 := Scalar.addi v2 c14_i32
  let c16_i32_55 : BitVec 32 := 16#32
  let v62 : BitVec 32 := Scalar.remsi v61 c16_i32_55
  let c1_i32_57 : BitVec 32 := 1#32
  let v63 : BitVec 32 := Scalar.muli v62 c1_i32_57
  let v64 : BitVec 32 := Scalar.addi c0_i32_58 v63
  v64.toNat
def k0_dev15 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v65 : BitVec 32 := Scalar.addi v2 c15_i32
  let c16_i32_59 : BitVec 32 := 16#32
  let v66 : BitVec 32 := Scalar.remsi v65 c16_i32_59
  let c1_i32_61 : BitVec 32 := 1#32
  let v67 : BitVec 32 := Scalar.muli v66 c1_i32_61
  let v68 : BitVec 32 := Scalar.addi c0_i32_62 v67
  v68.toNat
def k0_off1 (d0 : Dev nD) (c1_i32_64 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v69 : BitVec 32 := Scalar.addi v2 c1_i32_64
  let c16_i32_65 : BitVec 32 := 16#32
  let v70 : BitVec 32 := Scalar.remsi v69 c16_i32_65
  let c256_i32 : BitVec 32 := 256#32
  let v71 : BitVec 32 := Scalar.muli v70 c256_i32
  let c0_i32_71 : BitVec 32 := 0#32
  ![v71.toNat, 0]
def k0_dev16 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_64 : BitVec 32 := 1#32
  let v69 : BitVec 32 := Scalar.addi v2 c1_i32_64
  let c16_i32_65 : BitVec 32 := 16#32
  let v70 : BitVec 32 := Scalar.remsi v69 c16_i32_65
  let c1_i32_68 : BitVec 32 := 1#32
  let v72 : BitVec 32 := Scalar.muli v70 c1_i32_68
  let v73 : BitVec 32 := Scalar.addi c0_i32_69 v72
  v73.toNat
def k0_dev17 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_72 : BitVec 32 := 2#32
  let v80 : BitVec 32 := Scalar.addi v2 c2_i32_72
  let c16_i32_73 : BitVec 32 := 16#32
  let v81 : BitVec 32 := Scalar.remsi v80 c16_i32_73
  let c1_i32_77 : BitVec 32 := 1#32
  let v83 : BitVec 32 := Scalar.muli v81 c1_i32_77
  let v84 : BitVec 32 := Scalar.addi c0_i32_78 v83
  v84.toNat
def k0_dev18 (d0 : Dev nD) : Nat :=
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_81 : BitVec 32 := 3#32
  let v91 : BitVec 32 := Scalar.addi v2 c3_i32_81
  let c16_i32_82 : BitVec 32 := 16#32
  let v92 : BitVec 32 := Scalar.remsi v91 c16_i32_82
  let c1_i32_86 : BitVec 32 := 1#32
  let v94 : BitVec 32 := Scalar.muli v92 c1_i32_86
  let v95 : BitVec 32 := Scalar.addi c0_i32_87 v94
  v95.toNat
def k0_dev19 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_90 : BitVec 32 := 4#32
  let v102 : BitVec 32 := Scalar.addi v2 c4_i32_90
  let c16_i32_91 : BitVec 32 := 16#32
  let v103 : BitVec 32 := Scalar.remsi v102 c16_i32_91
  let c1_i32_95 : BitVec 32 := 1#32
  let v105 : BitVec 32 := Scalar.muli v103 c1_i32_95
  let v106 : BitVec 32 := Scalar.addi c0_i32_96 v105
  v106.toNat
def k0_dev20 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_99 : BitVec 32 := 5#32
  let v113 : BitVec 32 := Scalar.addi v2 c5_i32_99
  let c16_i32_100 : BitVec 32 := 16#32
  let v114 : BitVec 32 := Scalar.remsi v113 c16_i32_100
  let c1_i32_104 : BitVec 32 := 1#32
  let v116 : BitVec 32 := Scalar.muli v114 c1_i32_104
  let v117 : BitVec 32 := Scalar.addi c0_i32_105 v116
  v117.toNat
def k0_dev21 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_108 : BitVec 32 := 6#32
  let v124 : BitVec 32 := Scalar.addi v2 c6_i32_108
  let c16_i32_109 : BitVec 32 := 16#32
  let v125 : BitVec 32 := Scalar.remsi v124 c16_i32_109
  let c1_i32_113 : BitVec 32 := 1#32
  let v127 : BitVec 32 := Scalar.muli v125 c1_i32_113
  let v128 : BitVec 32 := Scalar.addi c0_i32_114 v127
  v128.toNat
def k0_dev22 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_117 : BitVec 32 := 7#32
  let v135 : BitVec 32 := Scalar.addi v2 c7_i32_117
  let c16_i32_118 : BitVec 32 := 16#32
  let v136 : BitVec 32 := Scalar.remsi v135 c16_i32_118
  let c1_i32_122 : BitVec 32 := 1#32
  let v138 : BitVec 32 := Scalar.muli v136 c1_i32_122
  let v139 : BitVec 32 := Scalar.addi c0_i32_123 v138
  v139.toNat
def k0_dev23 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_126 : BitVec 32 := 8#32
  let v146 : BitVec 32 := Scalar.addi v2 c8_i32_126
  let c16_i32_127 : BitVec 32 := 16#32
  let v147 : BitVec 32 := Scalar.remsi v146 c16_i32_127
  let c1_i32_131 : BitVec 32 := 1#32
  let v149 : BitVec 32 := Scalar.muli v147 c1_i32_131
  let v150 : BitVec 32 := Scalar.addi c0_i32_132 v149
  v150.toNat
def k0_dev24 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_135 : BitVec 32 := 9#32
  let v157 : BitVec 32 := Scalar.addi v2 c9_i32_135
  let c16_i32_136 : BitVec 32 := 16#32
  let v158 : BitVec 32 := Scalar.remsi v157 c16_i32_136
  let c1_i32_140 : BitVec 32 := 1#32
  let v160 : BitVec 32 := Scalar.muli v158 c1_i32_140
  let v161 : BitVec 32 := Scalar.addi c0_i32_141 v160
  v161.toNat
def k0_dev25 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_144 : BitVec 32 := 10#32
  let v168 : BitVec 32 := Scalar.addi v2 c10_i32_144
  let c16_i32_145 : BitVec 32 := 16#32
  let v169 : BitVec 32 := Scalar.remsi v168 c16_i32_145
  let c1_i32_149 : BitVec 32 := 1#32
  let v171 : BitVec 32 := Scalar.muli v169 c1_i32_149
  let v172 : BitVec 32 := Scalar.addi c0_i32_150 v171
  v172.toNat
def k0_dev26 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_153 : BitVec 32 := 11#32
  let v179 : BitVec 32 := Scalar.addi v2 c11_i32_153
  let c16_i32_154 : BitVec 32 := 16#32
  let v180 : BitVec 32 := Scalar.remsi v179 c16_i32_154
  let c1_i32_158 : BitVec 32 := 1#32
  let v182 : BitVec 32 := Scalar.muli v180 c1_i32_158
  let v183 : BitVec 32 := Scalar.addi c0_i32_159 v182
  v183.toNat
def k0_dev27 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_162 : BitVec 32 := 12#32
  let v190 : BitVec 32 := Scalar.addi v2 c12_i32_162
  let c16_i32_163 : BitVec 32 := 16#32
  let v191 : BitVec 32 := Scalar.remsi v190 c16_i32_163
  let c1_i32_167 : BitVec 32 := 1#32
  let v193 : BitVec 32 := Scalar.muli v191 c1_i32_167
  let v194 : BitVec 32 := Scalar.addi c0_i32_168 v193
  v194.toNat
def k0_dev28 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_171 : BitVec 32 := 13#32
  let v201 : BitVec 32 := Scalar.addi v2 c13_i32_171
  let c16_i32_172 : BitVec 32 := 16#32
  let v202 : BitVec 32 := Scalar.remsi v201 c16_i32_172
  let c1_i32_176 : BitVec 32 := 1#32
  let v204 : BitVec 32 := Scalar.muli v202 c1_i32_176
  let v205 : BitVec 32 := Scalar.addi c0_i32_177 v204
  v205.toNat
def k0_dev29 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_180 : BitVec 32 := 14#32
  let v212 : BitVec 32 := Scalar.addi v2 c14_i32_180
  let c16_i32_181 : BitVec 32 := 16#32
  let v213 : BitVec 32 := Scalar.remsi v212 c16_i32_181
  let c1_i32_185 : BitVec 32 := 1#32
  let v215 : BitVec 32 := Scalar.muli v213 c1_i32_185
  let v216 : BitVec 32 := Scalar.addi c0_i32_186 v215
  v216.toNat
def k0_dev30 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_189 : BitVec 32 := 15#32
  let v223 : BitVec 32 := Scalar.addi v2 c15_i32_189
  let c16_i32_190 : BitVec 32 := 16#32
  let v224 : BitVec 32 := Scalar.remsi v223 c16_i32_190
  let c1_i32_194 : BitVec 32 := 1#32
  let v226 : BitVec 32 := Scalar.muli v224 c1_i32_194
  let v227 : BitVec 32 := Scalar.addi c0_i32_195 v226
  v227.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_199 : BitVec 32 := 256#32
  let v234 : BitVec 32 := Scalar.muli v2 c256_i32_199
  let v235 : Index := Scalar.indexCast v234
  let c0_200 : Index := 0#32
  ![v235.toNat, 0]
def k0_off3 (d0 : Dev nD) (c0_i32_203 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v240 : BitVec 32 := Scalar.addi v2 c0_i32_203
  let c16_i32_204 : BitVec 32 := 16#32
  let v241 : BitVec 32 := Scalar.remsi v240 c16_i32_204
  let c256_i32_205 : BitVec 32 := 256#32
  let v242 : BitVec 32 := Scalar.muli v241 c256_i32_205
  let c0_i32_210 : BitVec 32 := 0#32
  ![v242.toNat, 0]
abbrev stage0_0 : Fin 1 → Memref sig .tc .vmem S4096x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .fp8e4m3⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .f32⟩
  | .local _ .vmem, ⟨2, _⟩ => ⟨S1, .f32⟩
  | .local _ .vmem, ⟨3, _⟩ => ⟨S1, .f32⟩
  | .local _ .vmem, ⟨4, _⟩ => ⟨S4096x2048, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Cells.lean ====
/- The all-to-all's devices, semaphore cells and buffer windows, and what the buffers hold: the ring arithmetic on the
   sixteen devices, the barrier, send and receive cells, the windows of the scratch buffers the transfers move, and the
   whole-buffer contents those windows are windows of. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's rounds, the exchange's rounds (duties `Fin 15`), the transfers' counters -/

abbrev UB : Type := URounds (GSem nD τ sig) (Fin 15)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev 𝒱₀ : Variants := Variants.none

/-! ## The devices -/

/-- The device `k` places after `c`. -/
def up (c : Dev nD) (k : ℕ) : Dev nD := ⟨(c.val + k) % 16, Nat.mod_lt _ (by decide)⟩

theorem up_val (c : Dev nD) (k : ℕ) : (up c k).val = (c.val + k) % 16 := rfl
theorem dev_lt (c : Dev nD) : c.val < 16 := c.isLt
theorem up_up (c : Dev nD) (j k : ℕ) : up (up c j) k = up c (j + k) := by
  apply Fin.ext; simp only [up_val]; omega
theorem up_zero (c : Dev nD) : up c 0 = c := by apply Fin.ext; have := dev_lt c; simp only [up_val]; omega
theorem up_16 (c : Dev nD) : up c 16 = c := by apply Fin.ext; have := dev_lt c; simp only [up_val]; omega
/-- Two places below sixteen that lead from `c` to one device are one place. -/
theorem up_inj (c : Dev nD) {j k : ℕ} (hj : j < 16) (hk : k < 16) (h : up c j = up c k) : j = k := by
  have h := congrArg Fin.val h; have := dev_lt c; simp only [up_val] at h; omega
/-- Going `k` places on permutes the devices. -/
def upEquiv (k : ℕ) (hk : k ≤ 16) : Dev nD ≃ Dev nD where
  toFun c := up c k
  invFun c := up c (16 - k)
  left_inv c := by show up (up c k) (16 - k) = c; rw [up_up, show k + (16 - k) = 16 by omega, up_16]
  right_inv c := by show up (up c (16 - k)) k = c; rw [up_up, show 16 - k + k = 16 by omega, up_16]

/-- Offset `i + 1` seen from the other end: `15 - i`, as an index again. -/
def rv (i : Fin 15) : Fin 15 := ⟨14 - i.val, by omega⟩
theorem rv_val (i : Fin 15) : (rv i).val = 14 - i.val := rfl
theorem rv_rv (i : Fin 15) : rv (rv i) = i := by apply Fin.ext; have := i.isLt; simp only [rv_val]; omega
def rvEquiv : Fin 15 ≃ Fin 15 := ⟨rv, rv, rv_rv, rv_rv⟩
theorem up_rv (c : Dev nD) (i : Fin 15) : up (up c (i.val + 1)) ((rv i).val + 1) = c := by
  have := i.isLt; rw [up_up, rv_val, show i.val + 1 + (14 - i.val + 1) = 16 by omega, up_16]

/-! ## The semaphore cells -/

/-- The barrier semaphore of collective id 0. -/
abbrev barS : Sem sig := (SemArray.scalar (sig.barrier 0 rfl) : Sems sig S_).sem
/-- The send semaphore of the copy at offset `i + 1`, the receive semaphore of it, the weight copies' semaphore of slot `j`. -/
def sendS (i : Fin 15) : DmaSem sig := ⟨5 + i.val, by have := i.isLt; show 5 + i.val < 40; omega⟩
def recvS (i : Fin 15) : DmaSem sig := ⟨21 + i.val, by have := i.isLt; show 21 + i.val < 40; omega⟩
def wS (j : Fin 4) : DmaSem sig := ⟨36 + j.val, by have := j.isLt; show 36 + j.val < 40; omega⟩

abbrev barCell (c : Dev nD) : GSem nD τ sig := ((c : Thread nD τ), .reg barS)
abbrev sendCell (c : Dev nD) (i : Fin 15) : GSem nD τ sig := ((c : Thread nD τ), .dma (sendS i))
abbrev recvCell (c : Dev nD) (i : Fin 15) : GSem nD τ sig := ((c : Thread nD τ), .dma (recvS i))

/-- What one 256×256 block of the activations is worth to a DMA semaphore, and one 256×2048 block of the weights. -/
def NX : ℕ := ((Memref.whole cc0_scratch1).slice (Rect.unit (s := S256x4096) ![0, 0] S256x256.size inb_S256x4096_S256x256_0_0) (fun _ => rfl)).view.dmaCredit
def NW : ℕ := (((Memref.whole cc0_scratch3).slice (Rect.unit (s := S4x256x2048) ![0, 0, 0] S1x256x2048.size inb_S4x256x2048_S1x256x2048_0_0_0) (fun _ => rfl)).squeeze S256x2048 squeezes_S1x256x2048_S256x2048).view.dmaCredit

theorem NX_pos : 0 < NX := View.dmaCredit_pos _ (by decide)
theorem NW_pos : 0 < NW := View.dmaCredit_pos _ (by decide)

/-! ## The windows -/

/-- Rows `256 p … 256 p + 255` of the local activations; columns `256 j …` of the exchanged ones; the same rows of the
    weights in either buffer; slot `j` of the weights' staging buffer. -/
def xsRow (p : ℕ) : Finset S4096x256.Idx := Finset.univ.filter fun i => (i 0).val / 256 = p
def xtCol (j : ℕ) : Finset S256x4096.Idx := Finset.univ.filter fun i => (i 1).val / 256 = j
def wRow (p : ℕ) : Finset S4096x2048.Idx := Finset.univ.filter fun i => (i 0).val / 256 = p
def wtSlot (j : ℕ) : Finset S4x256x2048.Idx := Finset.univ.filter fun i => (i 0).val = j

theorem mem_xsRow {p : ℕ} {i : S4096x256.Idx} : i ∈ xsRow p ↔ (i 0).val / 256 = p := by simp [xsRow]
theorem mem_xtCol {p : ℕ} {i : S256x4096.Idx} : i ∈ xtCol p ↔ (i 1).val / 256 = p := by simp [xtCol]
theorem mem_wRow {p : ℕ} {i : S4096x2048.Idx} : i ∈ wRow p ↔ (i 0).val / 256 = p := by simp [wRow]
theorem mem_wtSlot {p : ℕ} {i : S4x256x2048.Idx} : i ∈ wtSlot p ↔ (i 0).val = p := by simp [wtSlot]

/-! ## The order of the weight copies -/

/-- Which block after its own a device's `i`-th weight copy fetches. -/
def qs : Fin 16 → ℕ := fun i => if i.val = 0 then 0 else if i.val ≤ 8 then i.val + 7 else i.val - 8
theorem qs_lt (i : Fin 16) : qs i < 16 := by have := i.isLt; unfold qs; split_ifs <;> omega
/-- Every block is fetched once. -/
def qEquiv : Fin 16 ≃ Fin 16 where
  toFun i := ⟨qs i, qs_lt i⟩
  invFun i := ⟨if i.val = 0 then 0 else if i.val ≤ 7 then i.val + 8 else i.val - 7, by have := i.isLt; split_ifs <;> omega⟩
  left_inv := by decide
  right_inv := by decide
/-- The staging slot of the `i`-th weight copy. -/
def slot (i : Fin 16) : Fin 4 := ⟨i.val % 4, Nat.mod_lt _ (by decide)⟩

/-! ## What the buffers hold -/

variable (x : Dev nD → Vec F S4096x256 .fp8e4m3) (w : Dev nD → Vec F S4096x2048 .f32)

/-- Device `c`'s exchanged activations: column block `j` is row block `c` of device `c + j`'s. -/
def XT (c : Dev nD) : Vec F S256x4096 .fp8e4m3 := fun i =>
  x (up c ((i 1).val / 256)) (ix2 (n0 := 4096) (n1 := 256) ⟨256 * c.val + (i 0).val, by have := dev_lt c; have : (i 0).val < 256 := (i 0).isLt; omega⟩
    ⟨(i 1).val % 256, Nat.mod_lt _ (by decide)⟩)

/-- Row block `c + k` of device `c`'s weights, as one slot of the staging buffer holds it. -/
def wBlk (c : Dev nD) (k : ℕ) : Vec F S1x256x2048 .f32 := fun i =>
  w c (ix2 (n0 := 4096) (n1 := 2048) ⟨256 * (up c k).val + (i 1).val, by have := dev_lt (up c k); have : (i 1).val < 256 := (i 1).isLt; omega⟩ (i 2))

/-- The staging buffer with the `i`-th weight block in every slot. -/
def WT (c : Dev nD) (i : Fin 16) : Vec F S4x256x2048 .f32 := fun j =>
  w c (ix2 (n0 := 4096) (n1 := 2048) ⟨256 * (up c (qs i)).val + (j 1).val, by have := dev_lt (up c (qs i)); have : (j 1).val < 256 := (j 1).isLt; omega⟩ (j 2))

/-- The converted weights: row block `k` is row block `c + k` of the weights, converted. -/
def WC (c : Dev nD) : Vec F S4096x2048 .fp8e4m3 := fun j =>
  k0_pay3 (wBlk w c ((j 0).val / 256)) (ix2 (n0 := 256) (n1 := 2048) ⟨(j 0).val % 256, Nat.mod_lt _ (by decide)⟩ (j 1))

/-! ## The windows' points-to facts -/

def xsPts (c : Dev nD) (p : ℕ) (f : Vec F S4096x256 .fp8e4m3) : sProp 𝕄 := ((c : Thread nD τ).loc cc0_scratch0) ↦[xsRow p]{fullShare} f
def xtPts (c : Dev nD) (j : ℕ) (f : Vec F S256x4096 .fp8e4m3) : sProp 𝕄 := ((c : Thread nD τ).loc cc0_scratch1) ↦[xtCol j]{fullShare} f
def wcPts (c : Dev nD) (j : ℕ) (f : Vec F S4096x2048 .fp8e4m3) : sProp 𝕄 := ((c : Thread nD τ).loc cc0_scratch2) ↦[wRow j]{fullShare} f
def wtPts (c : Dev nD) (j : ℕ) (f : Vec F S4x256x2048 .f32) : sProp 𝕄 := ((c : Thread nD τ).loc cc0_scratch3) ↦[wtSlot j]{fullShare} f
def wPts (c : Dev nD) (p : ℕ) (f : Vec F S4096x2048 .f32) : sProp 𝕄 := ((c : Thread nD τ).loc main_arg1) ↦[wRow p]{fullShare} f

omit [FloatOps F] in
instance xsPts_storable (c : Dev nD) (p : ℕ) (f) : BI.Storable (upEmb : UEmb _ 𝕄) (xsPts (F := F) c p f) := by unfold xsPts; infer_instance
omit [FloatOps F] in
instance xtPts_storable (c : Dev nD) (p : ℕ) (f) : BI.Storable (upEmb : UEmb _ 𝕄) (xtPts (F := F) c p f) := by unfold xtPts; infer_instance

omit [FloatOps F] in
theorem xsPts_eq (c : Dev nD) (p : ℕ) (f : Vec F S4096x256 .fp8e4m3) : xsPts c p f = (((c : Thread nD τ).loc cc0_scratch0) ↦[xsRow p]{fullShare} f : sProp 𝕄) := rfl

end Cert.A2A

end
-- ==== Proof.Windows.lean ====
/- The windows the kernel's memory operations name, as the sets they cover; what each operation leaves in its window. -/
module

public import proofs.«01_k».proof.Proof.Cells

@[expose] public section

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The sets the operations cover -/

/-- A unit rectangle whose first coordinate runs over one block of 256, whole on the second, covers that row block. -/
theorem rows_set {n : ℕ} {off : Fin 2 → ℕ} {p : ℕ} (hoff : off = ![256 * p, 0])
    (inb : ∀ a, off a + (⟨2, ![256, n]⟩ : Shape).size a ≤ (⟨2, ![4096, n]⟩ : Shape).size a) :
    (Rect.unit (s := ⟨2, ![4096, n]⟩) off (⟨2, ![256, n]⟩ : Shape).size inb).set = Finset.univ.filter fun i => (i 0).val / 256 = p := by
  subst hoff
  ext i
  rw [Rect.mem_set_unit, Finset.mem_filter]
  have h1 : (i 1).val < n := (i 1).isLt
  constructor
  · intro h
    have := h 0
    simp at this
    exact ⟨Finset.mem_univ _, by omega⟩
  · rintro ⟨-, h⟩ a
    match a with
    | 0 => simp; omega
    | 1 => simp; omega

theorem cols_set {off : Fin 2 → ℕ} {p : ℕ} (hoff : off = ![0, 256 * p]) (inb : ∀ a, off a + S256x256.size a ≤ S256x4096.size a) :
    (Rect.unit (s := S256x4096) off S256x256.size inb).set = xtCol p := by
  subst hoff
  ext i
  rw [Rect.mem_set_unit, mem_xtCol]
  have h0 : (i 0).val < 256 := (i 0).isLt
  constructor
  · intro h
    have := h 1
    simp at this
    omega
  · intro h a
    match a with
    | 0 => simp; omega
    | 1 => simp; omega

theorem slot_set {off : Fin 3 → ℕ} {p : ℕ} (hoff : off = ![p, 0, 0]) (inb : ∀ a, off a + S1x256x2048.size a ≤ S4x256x2048.size a) :
    (Rect.unit (s := S4x256x2048) off S1x256x2048.size inb).set = wtSlot p := by
  subst hoff
  ext i
  rw [Rect.mem_set_unit, mem_wtSlot]
  have h1 : (i 1).val < 256 := (i 1).isLt
  have h2 : (i 2).val < 2048 := (i 2).isLt
  constructor
  · intro h
    have := h 0
    simp at this
    omega
  · intro h a
    match a with
    | 0 => simp; omega
    | 1 => simp; omega
    | 2 => simp; omega

variable {off : Fin 2 → ℕ} {p : ℕ}

abbrev xsM : Memref sig .tc .vmem S4096x256 .fp8e4m3 := Memref.whole cc0_scratch0
abbrev xtM : Memref sig .tc .vmem S256x4096 .fp8e4m3 := Memref.whole cc0_scratch1
abbrev wcM : Memref sig .tc .vmem S4096x2048 .fp8e4m3 := Memref.whole cc0_scratch2
abbrev wtM : Memref sig .tc .vmem S4x256x2048 .f32 := Memref.whole cc0_scratch3
abbrev wM : Memref sig .tc .hbm S4096x2048 .f32 := Memref.whole main_arg1

/-- The window of the local activations a copy reads; of the exchanged ones it writes; of the weights a weight copy reads;
    the staging slot it writes. -/
abbrev xsW (off : Fin 2 → ℕ) (inb : ∀ a, off a + S256x256.size a ≤ S4096x256.size a) : Memref sig .tc .vmem S256x256 .fp8e4m3 :=
  xsM.slice (Rect.unit (s := S4096x256) off S256x256.size inb) (fun _ => rfl)
abbrev xtW (off : Fin 2 → ℕ) (inb : ∀ a, off a + S256x256.size a ≤ S256x4096.size a) : Memref sig .tc .vmem S256x256 .fp8e4m3 :=
  xtM.slice (Rect.unit (s := S256x4096) off S256x256.size inb) (fun _ => rfl)
abbrev wW (off : Fin 2 → ℕ) (inb : ∀ a, off a + S256x2048.size a ≤ S4096x2048.size a) : Memref sig .tc .hbm S256x2048 .f32 :=
  wM.slice (Rect.unit (s := S4096x2048) off S256x2048.size inb) (fun _ => rfl)
abbrev wtW (off : Fin 3 → ℕ) (inb : ∀ a, off a + S1x256x2048.size a ≤ S4x256x2048.size a) : Memref sig .tc .vmem S256x2048 .f32 :=
  (wtM.slice (Rect.unit (s := S4x256x2048) off S1x256x2048.size inb) (fun _ => rfl)).squeeze S256x2048 squeezes_S1x256x2048_S256x2048

theorem xsW_set (hoff : off = ![256 * p, 0]) (inb) : (xsW off inb).view.set = xsRow p := (View.set_slice_whole _ _).trans (rows_set (n := 256) hoff inb)
theorem xtW_set (hoff : off = ![0, 256 * p]) (inb) : (xtW off inb).view.set = xtCol p := (View.set_slice_whole _ _).trans (cols_set hoff inb)
theorem wW_set (hoff : off = ![256 * p, 0]) (inb) : (wW off inb).view.set = wRow p := (View.set_slice_whole _ _).trans (rows_set (n := 2048) hoff inb)
theorem wtW_set {off : Fin 3 → ℕ} (hoff : off = ![p, 0, 0]) (inb) : (wtW off inb).view.set = wtSlot p :=
  (View.set_reshape _ _).trans ((View.set_slice_whole _ _).trans (slot_set hoff inb))

/-! ## What a write leaves in its window -/

/-- A write through a view of values that some contents read back as leaves those contents in the view's window. -/
theorem write_agrees {sp : Space} {s : Shape} {e : EltTy} (v : View sig .tc sp s e) (f G : v.ty.Contents (Elt F)) (u : s.Idx → Elt F e)
    (h : v.read (Elt F) G = u) : ∀ i ∈ v.set, v.write (Elt F) f u Finset.univ i = G i := by
  intro i hi
  obtain ⟨y, -, rfl⟩ := Finset.mem_map.mp hi
  rw [View.write_emb_of_mem _ _ (Finset.mem_univ y), ← h, View.read_apply, cast_cast, cast_eq]

variable (x : Dev nD → Vec F S4096x256 .fp8e4m3) (w : Dev nD → Vec F S4096x2048 .f32)

/-- What one row block of device `c`'s activations is of the device it is sent to. -/
theorem xt_read {c d : Dev nD} {j : ℕ} {off off' : Fin 2 → ℕ} (hd : c = up d j) (hj : j < 16)
    (hoff : off = ![256 * d.val, 0]) (hoff' : off' = ![0, 256 * j]) (inb) (inb') :
    (xtW off' inb').view.read (Elt F) (XT x d) = (xsW off inb).view.read (Elt F) (x c) := by
  subst hoff hoff'
  funext y
  have h1 : (y 1).val < 256 := (y 1).isLt
  show XT x d _ = x c _
  unfold XT
  have e1 : (((Rect.unit (s := S256x4096) ![0, 256 * j] S256x256.size inb').emb y) 1).val = 256 * j + 1 * (y 1).val := rfl
  have e0 : (((Rect.unit (s := S256x4096) ![0, 256 * j] S256x256.size inb').emb y) 0).val = 0 + 1 * (y 0).val := rfl
  have hc : up d ((((Rect.unit (s := S256x4096) ![0, 256 * j] S256x256.size inb').emb y) 1).val / 256) = c := by
    rw [e1, hd]; congr 1; omega
  refine congr (congrArg x hc) (funext fun a => Fin.ext ?_)
  match a with
  | 0 =>
    show 256 * d.val + (0 + 1 * (y 0).val) = 256 * d.val + 1 * (y 0).val
    omega
  | 1 =>
    show (256 * j + 1 * (y 1).val) % 256 = 0 + 1 * (y 1).val
    omega

/-- One row block of a device's weights as the staging slot it is copied to holds it. -/
theorem wt_read {c : Dev nD} {i : Fin 16} {off : Fin 2 → ℕ} {off' : Fin 3 → ℕ}
    (hoff : off = ![256 * (up c (qs i)).val, 0]) (hoff' : off' = ![p, 0, 0]) (inb) (inb') :
    (wtW off' inb').view.read (Elt F) (WT w c i) = (wW off inb).view.read (Elt F) (w c) := by
  subst hoff hoff'
  funext y
  show WT w c i (_ : S4x256x2048.Idx) = w c _
  unfold WT
  refine congrArg (w c) (funext fun a => Fin.ext ?_)
  have hr : Shape.reshapeEquiv (s := S1x256x2048) (s' := S256x2048) squeezes_S1x256x2048_S256x2048.numel_eq y = Fin.cons ⟨0, Nat.one_pos⟩ y :=
    Shape.reshapeEquiv_cons_one (d := ![256, 2048]) _ y
  match a with
  | 0 =>
    show 256 * (up c (qs i)).val + (0 + 1 * ((Shape.reshapeEquiv (s := S1x256x2048) (s' := S256x2048) squeezes_S1x256x2048_S256x2048.numel_eq y) 1).val) = 256 * (up c (qs i)).val + 1 * (y 0).val
    rw [hr]
    show 256 * (up c (qs i)).val + (0 + 1 * (y 0).val) = _
    omega
  | 1 =>
    show (0 + 1 * ((Shape.reshapeEquiv (s := S1x256x2048) (s' := S256x2048) squeezes_S1x256x2048_S256x2048.numel_eq y) 2).val) = 0 + 1 * (y 1).val
    rw [hr]
    rfl

/-- A load of one staging slot. -/
theorem wt_load {c : Dev nD} {i : Fin 16} {off : Fin 3 → ℕ} (hoff : off = ![p, 0, 0]) (inb) :
    wtM.view.readAt (Elt F) (Rect.unit (s := S4x256x2048) off S1x256x2048.size inb).toLoadRect (WT w c i) = wBlk w c (qs i) := by
  subst hoff
  funext y
  show w c _ = w c _
  refine congrArg (w c) (funext fun a => Fin.ext ?_)
  match a with
  | 0 =>
    show 256 * (up c (qs i)).val + (0 + 1 * (y 1).val) = 256 * (up c (qs i)).val + (y 1).val
    omega
  | 1 =>
    show 0 + 1 * (y 2).val = (y 2).val
    omega

/-- What one row block of the converted weights reads. -/
theorem wc_read {c : Dev nD} {k : ℕ} {off : Fin 2 → ℕ} (hoff : off = ![256 * k, 0]) (inb) :
    (wcM.access (Rect.unit (s := S4096x2048) off S256x2048.size inb) : View sig .tc _ _ _).read (Elt F) (WC w c) = k0_pay3 (wBlk w c k) := by
  subst hoff
  funext y
  have h0 : (y 0).val < 256 := (y 0).isLt
  show WC w c _ = _
  unfold WC
  have hk : ((((Rect.unit (s := S4096x2048) ![256 * k, 0] S256x2048.size inb).emb y) 0).val) / 256 = k := by
    show (256 * k + 1 * (y 0).val) / 256 = k
    omega
  refine congr (congrArg (fun k => k0_pay3 (wBlk w c k)) hk) (funext fun a => Fin.ext ?_)
  match a with
  | 0 =>
    show (256 * k + 1 * (y 0).val) % 256 = (y 0).val
    omega
  | 1 =>
    show 0 + 1 * (y 1).val = (y 1).val
    omega

end Cert.A2A

end
-- ==== Proof.Schedule.lean ====
/- The exchange's schedule: which units each cell expects, who owes them, what they hand over; the order of the cells. -/
module

public import proofs.«01_k».proof.Proof.Cells

@[expose] public section

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sets of offsets counted up from below -/

/-- The indices from `n` on, and those below `n`. -/
def tl (N n : ℕ) : Finset (Fin N) := Finset.univ.filter fun i => n ≤ i.val
def hd (N n : ℕ) : Finset (Fin N) := Finset.univ.filter fun i => i.val < n

theorem mem_tl {N n : ℕ} {i : Fin N} : i ∈ tl N n ↔ n ≤ i.val := by simp [tl]
theorem mem_hd {N n : ℕ} {i : Fin N} : i ∈ hd N n ↔ i.val < n := by simp [hd]
theorem tl_zero (N : ℕ) : tl N 0 = Finset.univ := by ext i; simp [tl]
theorem hd_zero (N : ℕ) : hd N 0 = ∅ := by ext i; simp [hd]
theorem tl_self (N : ℕ) : tl N N = ∅ := by ext i; have := i.isLt; simp [tl]
theorem hd_self (N : ℕ) : hd N N = Finset.univ := by ext i; have := i.isLt; simp [hd]
theorem tl_step {N : ℕ} (i : Fin N) : tl N i.val = insert i (tl N (i.val + 1)) := by
  ext j; simp only [Finset.mem_insert, mem_tl, Fin.ext_iff]; omega
theorem hd_step {N : ℕ} (i : Fin N) : hd N (i.val + 1) = insert i (hd N i.val) := by
  ext j; simp only [Finset.mem_insert, mem_hd, Fin.ext_iff]; omega
theorem not_mem_tl {N : ℕ} (i : Fin N) : i ∉ tl N (i.val + 1) := by simp [mem_tl]
theorem not_mem_hd {N : ℕ} (i : Fin N) : i ∉ hd N i.val := by simp [mem_hd]

omit [FloatOps F] in
theorem bigSep_tl {N : ℕ} (i : Fin N) (Φ : Fin N → sProp 𝕄) : bigSep (tl N i.val) Φ = iprop(Φ i ∗ bigSep (tl N (i.val + 1)) Φ) := by
  rw [tl_step, bigSep_insert (not_mem_tl i)]; rfl
omit [FloatOps F] in
theorem bigSep_hd {N : ℕ} (i : Fin N) (Φ : Fin N → sProp 𝕄) : bigSep (hd N (i.val + 1)) Φ = iprop(Φ i ∗ bigSep (hd N i.val) Φ) := by
  rw [hd_step, bigSep_insert (not_mem_hd i)]; rfl

/-! ## The cells, listed -/

/-- One device's cells: its barrier's, and of each offset the send cell (`false`) and the receive cell (`true`). -/
abbrev CI : Type := Option (Bool × Fin 15)
def csem : CI → SemLoc sig := fun k => match k with
  | none => .reg barS
  | some (false, i) => .dma (sendS i)
  | some (true, i) => .dma (recvS i)
abbrev kcell (ck : Dev nD × CI) : GSem nD τ sig := ((ck.1 : Thread nD τ), csem ck.2)

theorem sendS_inj {i j : Fin 15} (h : sendS i = sendS j) : i = j := by
  have := congrArg Fin.val h; simp only [sendS] at this; exact Fin.ext (by omega)
theorem recvS_inj {i j : Fin 15} (h : recvS i = recvS j) : i = j := by
  have := congrArg Fin.val h; simp only [recvS] at this; exact Fin.ext (by omega)
theorem sendS_ne_recvS (i j : Fin 15) : sendS i ≠ recvS j := fun h => by
  have := congrArg Fin.val h; simp only [sendS, recvS] at this; have := i.isLt; omega

theorem csem_injective : Function.Injective csem := by
  rintro (_ | ⟨_ | _, i⟩) (_ | ⟨_ | _, j⟩) h <;> simp only [csem] at h
  · rfl
  · cases h
  · cases h
  · cases h
  · rw [sendS_inj (SemLoc.dma.inj h)]
  · exact absurd (SemLoc.dma.inj h) (sendS_ne_recvS i j)
  · cases h
  · exact absurd (SemLoc.dma.inj h).symm (sendS_ne_recvS j i)
  · rw [recvS_inj (SemLoc.dma.inj h)]

/-! ## The schedule -/

variable (x : Dev nD → Vec F S4096x256 .fp8e4m3)

/-- What the device `i + 1` places after `c` hands `c` with its barrier signal: the column block of its exchanged
    activations that `c` writes, and that it is at the start of its receive cell of that offset. -/
def barPay (c : Dev nD) (i : Fin 15) : sProp 𝕄 :=
  iprop((∃ f, xtPts (up c (i.val + 1)) (15 - i.val) f) ∗ reached ER (recvCell (up c (i.val + 1)) i) 0)
/-- What the copy at offset `i + 1` towards `c` hands `c`: the column block it wrote. -/
def recvPay (c : Dev nD) (i : Fin 15) : sProp 𝕄 := xtPts c (15 - i.val) (XT x c)
/-- What `c`'s own copy at offset `i + 1` hands back: the row block it read. -/
def sendPay (c : Dev nD) (i : Fin 15) : sProp 𝕄 := xsPts c (up c (i.val + 1)).val (x c)

/-- The index of a send semaphore, of a receive semaphore; what a transfer semaphore hands over. -/
def xferPay (c : Dev nD) (s : DmaSem sig) : sProp 𝕄 :=
  if h : 5 ≤ s.val ∧ s.val < 20 then sendPay x c ⟨s.val - 5, by omega⟩
  else if h : 21 ≤ s.val ∧ s.val < 36 then recvPay x c ⟨s.val - 21, by omega⟩ else iprop(emp)

abbrev IsXfer (s : DmaSem sig) : Prop := (5 ≤ s.val ∧ s.val < 20) ∨ (21 ≤ s.val ∧ s.val < 36)

/-- One round: a barrier cell has fifteen duties of one unit, one per other device; a send or receive cell one duty of a
    block's credit. -/
def ringRd : Rounds.Schedule (GSem nD τ sig) (Fin 15) 𝕄 where
  duties g r := if r = 0 ∧ g.1.2 = .tc then (match g.2 with | .reg _ => Finset.univ | .dma s => if IsXfer s then {0} else ∅) else ∅
  unitless _ := False
  amount g _ _ := match g.2 with | .reg _ => 1 | .dma _ => NX
  payload g _ d := match g.2 with | .reg _ => barPay g.1.1 d | .dma s => xferPay x g.1.1 s
  amount_pos g _ _ _ := by
    split
    · exact Nat.one_pos
    · exact NX_pos

instance ringRd_payload_storable (g : GSem nD τ sig) (r : ℕ) (d : Fin 15) :
    BI.Storable (upEmb : UEmb _ 𝕄) ((ringRd (F := F) x).payload g r d) := by
  show BI.Storable upEmb (match g.2 with | .reg _ => barPay g.1.1 d | .dma s => xferPay x g.1.1 s)
  unfold barPay xferPay recvPay sendPay
  (repeat' split) <;> infer_instance

section Sched
variable (c : Dev nD) (i : Fin 15)

theorem isXfer_send : IsXfer (sendS i) := Or.inl ⟨by simp only [sendS]; omega, by have := i.isLt; simp only [sendS]; omega⟩
theorem isXfer_recv : IsXfer (recvS i) := Or.inr ⟨by simp only [recvS]; omega, by have := i.isLt; simp only [recvS]; omega⟩

omit [FloatOps F] in
theorem xferPay_send : xferPay (F := F) x c (sendS i) = sendPay x c i := by
  unfold xferPay
  rw [dif_pos ⟨by simp only [sendS]; omega, by have := i.isLt; simp only [sendS]; omega⟩]
  congr 1; apply Fin.ext; simp only [sendS]; omega
omit [FloatOps F] in
theorem xferPay_recv : xferPay (F := F) x c (recvS i) = recvPay x c i := by
  unfold xferPay
  rw [dif_neg (fun h => by have := h.2; simp only [recvS] at this; omega), dif_pos ⟨by simp only [recvS]; omega, by have := i.isLt; simp only [recvS]; omega⟩]
  congr 1; apply Fin.ext; simp only [recvS]; omega

omit [FloatOps F] in
theorem duties_bar : (ringRd (F := F) x).duties (barCell c) 0 = Finset.univ := by dsimp only [ringRd]; exact if_pos ⟨rfl, rfl⟩
omit [FloatOps F] in
theorem duties_send : (ringRd (F := F) x).duties (sendCell c i) 0 = {0} := by
  dsimp only [ringRd]; exact (if_pos ⟨rfl, rfl⟩).trans (if_pos (isXfer_send i))
omit [FloatOps F] in
theorem duties_recv : (ringRd (F := F) x).duties (recvCell c i) 0 = {0} := by
  dsimp only [ringRd]; exact (if_pos ⟨rfl, rfl⟩).trans (if_pos (isXfer_recv i))
omit [FloatOps F] in
theorem duties_later (g : GSem nD τ sig) : ∀ r, 1 ≤ r → (ringRd (F := F) x).duties g r = ∅ :=
  fun r hr => by dsimp only [ringRd]; rw [if_neg fun h => by omega]

omit [FloatOps F] in
theorem amount_bar (d : Fin 15) : (ringRd (F := F) x).amount (barCell c) 0 d = 1 := rfl
omit [FloatOps F] in
theorem amount_send (d : Fin 15) : (ringRd (F := F) x).amount (sendCell c i) 0 d = NX := rfl
omit [FloatOps F] in
theorem amount_recv (d : Fin 15) : (ringRd (F := F) x).amount (recvCell c i) 0 d = NX := rfl

omit [FloatOps F] in
theorem expect_bar : (ringRd (F := F) x).expect (barCell c) 0 = 15 := by
  unfold Schedule.expect Schedule.amountOf
  rw [duties_bar, Finset.sum_congr rfl fun d _ => amount_bar x c d, Finset.sum_const, Finset.card_univ, Fintype.card_fin, smul_eq_mul]
omit [FloatOps F] in
theorem expect_send : (ringRd (F := F) x).expect (sendCell c i) 0 = NX := by
  unfold Schedule.expect Schedule.amountOf; rw [duties_send, Finset.sum_singleton, amount_send]
omit [FloatOps F] in
theorem expect_recv : (ringRd (F := F) x).expect (recvCell c i) 0 = NX := by
  unfold Schedule.expect Schedule.amountOf; rw [duties_recv, Finset.sum_singleton, amount_recv]

omit [FloatOps F] in
theorem payload_bar (d : Fin 15) : (ringRd (F := F) x).payload (barCell c) 0 d = barPay c d := rfl
omit [FloatOps F] in
theorem payload_send (d : Fin 15) : (ringRd (F := F) x).payload (sendCell c i) 0 d = sendPay x c i := xferPay_send x c i
omit [FloatOps F] in
theorem payload_recv (d : Fin 15) : (ringRd (F := F) x).payload (recvCell c i) 0 d = recvPay x c i := xferPay_recv x c i

omit [FloatOps F] in
theorem rest_bar : bigSep ((ringRd (F := F) x).duties (barCell c) 0 \ ∅) (fun d => (ringRd (F := F) x).payload (barCell c) 0 d)
    = bigSep Finset.univ fun d : Fin 15 => barPay c d := by
  rw [Finset.sdiff_empty, duties_bar]; exact bigSep_congr fun d _ => payload_bar x c d
omit [FloatOps F] in
theorem rest_send : bigSep ((ringRd (F := F) x).duties (sendCell c i) 0 \ ∅) (fun d => (ringRd (F := F) x).payload (sendCell c i) 0 d) = sendPay x c i := by
  rw [Finset.sdiff_empty, duties_send, bigSep_singleton, payload_send]
omit [FloatOps F] in
theorem rest_recv : bigSep ((ringRd (F := F) x).duties (recvCell c i) 0 \ ∅) (fun d => (ringRd (F := F) x).payload (recvCell c i) 0 d) = recvPay x c i := by
  rw [Finset.sdiff_empty, duties_recv, bigSep_singleton, payload_recv]

end Sched

/-! ## What each device owes; the levels -/

/-- The receive credits still owed once `n` copies have started. -/
def OR (c : Dev nD) (n : ℕ) : CellTallies nD τ sig Unit := ∑ i ∈ tl 15 n, tallyAt (recvCell (up c (i.val + 1)) i) () NX
/-- What is owed once `n` barrier signals have been sent: every receive credit and the remaining signals. -/
def OB (c : Dev nD) (n : ℕ) : CellTallies nD τ sig Unit := OR c 0 + ∑ i ∈ tl 15 n, tallyAt (barCell (up c (i.val + 1))) () 1

theorem OR_step (c : Dev nD) (i : Fin 15) : OR c i.val = OR c (i.val + 1) + tallyAt (recvCell (up c (i.val + 1)) i) () NX := by
  unfold OR; rw [tl_step, Finset.sum_insert (not_mem_tl i), add_comm]
theorem OB_step (c : Dev nD) (i : Fin 15) : OB c i.val = OB c (i.val + 1) + tallyAt (barCell (up c (i.val + 1))) () 1 := by
  unfold OB; rw [tl_step, Finset.sum_insert (not_mem_tl i), add_comm (tallyAt _ _ _), add_assoc]
theorem OR_15 (c : Dev nD) : OR c 15 = 0 := by unfold OR; rw [tl_self, Finset.sum_empty]
theorem OB_15 (c : Dev nD) : OB c 15 = OR c 0 := by unfold OB; rw [tl_self, Finset.sum_empty, add_zero]

def L (g : GSem nD τ sig) : Finset Unit := if g.1.2 = .tc then {()} else ∅
/-- barrier cells at 1, receive cells at 2, everything else at 0. -/
def lv (g : GSem nD τ sig) (_ : Unit) : ℕ := match g.2 with | .reg _ => 1 | .dma s => if 21 ≤ s.val ∧ s.val < 36 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (i : Fin 15) : lv (recvCell c i) () = 2 := by
  show (if 21 ≤ (recvS i).val ∧ (recvS i).val < 36 then 2 else 0) = 2
  rw [if_pos ⟨by simp only [recvS]; omega, by have := i.isLt; simp only [recvS]; omega⟩]

/-- A sum of tallies over a set of cells is positive only at one of them. -/
theorem sum_tally_pos {T : Finset (Fin 15)} {gs : Fin 15 → GSem nD τ sig} {n : ℕ} {g : GSem nD τ sig} {u : Unit}
    (h : 0 < (∑ i ∈ T, tallyAt (gs i) () n : CellTallies nD τ sig Unit) g u) : ∃ i, g = gs i := by
  classical
  induction T using Finset.induction_on with
  | empty => rw [Finset.sum_empty] at h; exact absurd h (Nat.lt_irrefl 0)
  | insert a T ha ih =>
    rw [Finset.sum_insert ha, Pi.add_apply, Finsupp.add_apply, tallyAt_apply] at h
    by_cases hg : g = gs a ∧ u = ()
    · exact ⟨a, hg.1⟩
    · rw [if_neg hg, zero_add] at h; exact ih h

theorem OR_pos {c : Dev nD} {n : ℕ} {g : GSem nD τ sig} {u : Unit} (h : 0 < OR c n g u) : ∃ d i, g = recvCell d i := by
  obtain ⟨i, hi⟩ := sum_tally_pos (gs := fun i => recvCell (up c (i.val + 1)) i) h; exact ⟨_, i, hi⟩
theorem OB_pos {c : Dev nD} {n : ℕ} {g : GSem nD τ sig} {u : Unit} (h : 0 < OB c n g u) :
    (∃ d i, g = recvCell d i) ∨ ∃ d, g = barCell d := by
  unfold OB at h
  rw [Pi.add_apply, Finsupp.add_apply] at h
  rcases Nat.eq_zero_or_pos (OR c 0 g u) with h0 | h0
  · rw [h0, zero_add] at h
    obtain ⟨i, hi⟩ := sum_tally_pos (gs := fun i => barCell (up c (i.val + 1))) h; exact Or.inr ⟨_, hi⟩
  · exact Or.inl (OR_pos h0)

omit [FloatOps F] in
/-- At its barrier wait a device owes receive credits only: cells above its barrier cell. -/
theorem mayWait_bar (c : Dev nD) : (levAts L lv : sProp 𝕄) ⊢ MayWait (c : Thread nD τ) (.reg barS) () (OR c 0) :=
  MayOwe.of_cut (L := L) (lev := lv) 1 (fun p hp => by rw [Finset.mem_singleton.mp hp, L_tc]; exact Finset.mem_singleton_self _)
    (fun g u hg => by obtain ⟨d, i, rfl⟩ := OR_pos hg; rw [L_tc]; exact Finset.mem_singleton_self _)
    (fun p hp => by rw [Finset.mem_singleton.mp hp]; exact (lv_bar c).le)
    (fun g u hg => by obtain ⟨d, i, rfl⟩ := OR_pos hg; rw [lv_recv]; decide)

omit [FloatOps F] in
/-- A device may wait for a staging transfer whatever of the exchange it still owes. -/
theorem mayWait_stage (c : Dev nD) (q : DmaSem sig) (hq : ¬ (21 ≤ q.val ∧ q.val < 36)) (O : CellTallies nD τ sig Unit) (hO : O = OB c 0 ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases OB_pos hg with ⟨d, i, rfl⟩ | ⟨d, rfl⟩ <;> exact Finset.mem_singleton_self _)
      (fun p hp => by rw [Finset.mem_singleton.mp hp]; exact (if_neg hq).le)
      (fun g u hg => by
        rcases OB_pos hg with ⟨d, i, rfl⟩ | ⟨d, rfl⟩
        · rw [lv_recv]; decide
        · rw [lv_bar]; decide)
  · rw [MayWait_zero]; iintro -; iempintro

/-! ## The records every device reads: the cells' invariants, that each is at its round, the levels -/

def records (K : Dev nD × CI → ℕ) : sProp 𝕄 :=
  iprop((bigSep Finset.univ fun ck : Dev nD × CI => cellInv ER (ringRd x) (K ck) (kcell ck))
    ∗ (bigSep Finset.univ fun ck : Dev nD × CI => reached ER (kcell ck) 0) ∗ levAts L lv)

instance records_persistent (K : Dev nD × CI → ℕ) : BI.Persistent (records x K) := by unfold records; infer_instance

omit [FloatOps F] in
theorem records_inv (K : Dev nD × CI → ℕ) (ck : Dev nD × CI) : records x K ⊢ cellInv ER (ringRd x) (K ck) (kcell ck) := by
  unfold records; exact sep_elim_left.trans (bigSep_elim (Finset.mem_univ ck))
omit [FloatOps F] in
theorem records_reached (K : Dev nD × CI → ℕ) (ck : Dev nD × CI) : records x K ⊢ reached ER (kcell ck) 0 := by
  unfold records; exact sep_elim_right.trans (sep_elim_left.trans (bigSep_elim (Finset.mem_univ ck)))
omit [FloatOps F] in
theorem wait_bar_of_records (K : Dev nD × CI → ℕ) (c : Dev nD) : records x K ⊢ MayWait (c : Thread nD τ) (.reg barS) () (OR c 0) := by
  have h := mayWait_bar (F := F) c
  unfold records
  iintro ⟨-, -, H⟩
  iapply h
  iexact H

end Cert.A2A

end
-- ==== Proof.Steps.lean ====
/- One device's run: the states it goes through and one rule for each kind of operation. -/
module

public import proofs.«01_k».proof.Proof.Windows
public import proofs.«01_k».proof.Proof.Schedule
public import Idealize.ShloMosaic.Lib.Transfers

@[expose] public section

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The program `p` of device `c`, run to `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (x : Dev nD → Vec F S4096x256 .fp8e4m3) (w : Dev nD → Vec F S4096x2048 .f32) (K : Dev nD × CI → ℕ)

/-! ## The states of one device's run -/

/-- `c` owes `O`, whatever it has waited for so far. -/
def Ow (c : Dev nD) (O : CellTallies nD τ sig Unit) : sProp 𝕄 := iprop(∃ W : Waits sig Unit, owes (c : Thread nD τ) O W)

/-- `n` barrier signals sent: of each one left its duty's token and the column block it hands over. -/
def Sig (c : Dev nD) (n : ℕ) : sProp 𝕄 :=
  iprop(Ow c (OB c n) ∗ bigSep (tl 15 n) fun i => iprop(dutyTok ER (barCell (up c (i.val + 1))) 0 (rv i) ∗ ∃ f, xtPts c (i.val + 1) f))

/-- What the copy at offset `i + 1` takes besides what the barrier gave: its two duties' tokens and the row block it reads. -/
def sendIn (c : Dev nD) (i : Fin 15) : sProp 𝕄 :=
  iprop(dutyTok ER (sendCell c i) 0 0 ∗ dutyTok ER (recvCell (up c (i.val + 1)) i) 0 0 ∗ sendPay x c i)

/-- `n` copies started: what the others take, and the credits of the started ones' send cells. -/
def Snd (c : Dev nD) (n : ℕ) : sProp 𝕄 :=
  iprop(Ow c (OR c n) ∗ (bigSep (tl 15 n) fun i => iprop(barPay c i ∗ sendIn x c i))
    ∗ bigSep (hd 15 n) fun i => cred (tallyAt (sendCell c i) () NX))

/-- `n` copies towards `c` awaited. -/
def Rcv (c : Dev nD) (n : ℕ) : sProp 𝕄 :=
  iprop((bigSep (tl 15 n) fun i => iprop(cred (tallyAt (recvCell c i) () NX) ∗ atPos ER (recvCell c i) 0 ∅ 0))
    ∗ bigSep (hd 15 n) fun i => iprop(atPos ER (recvCell c i) 1 ∅ 0 ∗ recvPay x c i))

/-- `n` of `c`'s own copies awaited. -/
def Swt (c : Dev nD) (n : ℕ) : sProp 𝕄 :=
  iprop((bigSep (tl 15 n) fun i => iprop(cred (tallyAt (sendCell c i) () NX) ∗ atPos ER (sendCell c i) 0 ∅ 0))
    ∗ bigSep (hd 15 n) fun i => iprop(atPos ER (sendCell c i) 1 ∅ 0 ∗ sendPay x c i))

/-- The transfers' counters. -/
abbrev EC : UEmb Counters 𝕄 := countersEmb

/-- The `i`-th weight copy in flight. -/
def Fl (c : Dev nD) (i : Fin 16) : sProp 𝕄 :=
  Transfers.Flight EC (c : Thread nD τ) (.dma (wS (slot i))) () NW
    iprop(wtPts c (slot i).val (WT w c i) ∗ wPts c (up c (qs i)).val (w c))

/-- `s` weight copies started, `d` of them awaited. -/
def Dq (c : Dev nD) (s d : ℕ) : sProp 𝕄 :=
  iprop((bigSep (tl 16 s) fun i => wPts c (up c (qs i)).val (w c))
    ∗ (bigSep (tl 16 d ∩ hd 16 s) fun i => Fl w c i)
    ∗ bigSep (hd 16 d) fun i => wPts c (up c (qs i)).val (w c))

/-- Staging slot `j` with no copy in flight. -/
def Free (c : Dev nD) (j : Fin 4) : sProp 𝕄 := iprop((∃ f, wtPts c j.val f) ∗ semVal ((c : Thread nD τ), .dma (wS j)) 0)

/-- The slot of the `i`-th weight copy, that copy landed. -/
def Cur (c : Dev nD) (i : Fin 16) : sProp 𝕄 := iprop(wtPts c (slot i).val (WT w c i) ∗ semVal ((c : Thread nD τ), .dma (wS (slot i))) 0)

/-- `n` weight blocks converted. -/
def Wcs (c : Dev nD) (n : ℕ) : sProp 𝕄 :=
  iprop((bigSep (hd 16 n) fun i => wcPts c (qs i) (WC w c)) ∗ bigSep (tl 16 n) fun i => iprop(∃ f, wcPts c (qs i) f))

theorem Cur_free (c : Dev nD) (i : Fin 16) : Cur w c i ⊢ Free (F := F) c (slot i) := by
  unfold Cur Free; iintro ⟨H, Hv⟩; isplitl [H]; · iexists _; iexact H
  iexact Hv

theorem mid_start {s d : ℕ} (i : Fin 16) (hi : i.val = s) (h : d ≤ s) : tl 16 d ∩ hd 16 (s + 1) = insert i (tl 16 d ∩ hd 16 s) := by
  ext j; simp only [Finset.mem_insert, Finset.mem_inter, mem_tl, mem_hd, Fin.ext_iff]; omega
theorem mid_wait {s d : ℕ} (i : Fin 16) (hi : i.val = d) (h : d < s) : tl 16 d ∩ hd 16 s = insert i (tl 16 (d + 1) ∩ hd 16 s) := by
  ext j; simp only [Finset.mem_insert, Finset.mem_inter, mem_tl, mem_hd, Fin.ext_iff]; omega

theorem bigSep_mid_start {s d : ℕ} (i : Fin 16) (hi : i.val = s) (h : d ≤ s) (Φ : Fin 16 → sProp 𝕄) :
    bigSep (tl 16 d ∩ hd 16 (s + 1)) Φ = iprop(Φ i ∗ bigSep (tl 16 d ∩ hd 16 s) Φ) := by
  rw [mid_start i hi h, bigSep_insert (by simp [mem_hd, hi])]; rfl
theorem bigSep_mid_wait {s d : ℕ} (i : Fin 16) (hi : i.val = d) (h : d < s) (Φ : Fin 16 → sProp 𝕄) :
    bigSep (tl 16 d ∩ hd 16 s) Φ = iprop(Φ i ∗ bigSep (tl 16 (d + 1) ∩ hd 16 s) Φ) := by
  rw [mid_wait i hi h, bigSep_insert (by simp [mem_tl, hi])]; rfl

/-- A whole buffer's view covers of it what it is asked for. -/
theorem whole_setOn {b : Ref sig .tc} (M : Finset b.ty.shape.Idx) : (Memref.whole b).view.setOn M ⊆ M := fun i hi => by
  obtain ⟨y, hy, rfl⟩ := Finset.mem_map.mp hi; exact hy

/-- A block's credit is its shape's, wherever it lies. -/
theorem amount_xtW {off : Fin 2 → ℕ} (inb) (s : DmaSem sig) : (xtW off inb).view.amount (.dma s) = NX := rfl
theorem amount_wtW {off : Fin 3 → ℕ} (inb) (s : DmaSem sig) : (wtW off inb).view.amount (.dma s) = NW := rfl

theorem credit_xtW {off : Fin 2 → ℕ} (inb) : (xtW off inb).view.dmaCredit = NX := rfl
theorem credit_xsW {off : Fin 2 → ℕ} (inb) : (xsW off inb).view.dmaCredit = NX := rfl
theorem credit_wtW {off : Fin 3 → ℕ} (inb) : (wtW off inb).view.dmaCredit = NW := rfl

/-! ## One signal, one copy, one wait of each kind -/

/-- The barrier signal to the device `i + 1` places on. -/
theorem step_signal {α : Type} {Q : α → sProp 𝕄} {k : PUnit → Prog (TpuEff nD τ sig (Elt F) Λ₀ .tc) α} (c : Dev nD) (i : Fin 15)
    (n : Dev nD) (hn : n.val = (c.val + (i.val + 1)) % 16) :
    records x K ⊢ iprop(Sig c i.val -∗ (Sig c (i.val + 1) -∗ WP c (k ⟨⟩) Q)
      -∗ WP c (.op (.semSignal (Dev.tc n : Thread nD τ) barS (1#32 : BitVec 32).toInt) k) Q) := by
  obtain rfl : n = up c (i.val + 1) := Fin.ext hn
  unfold Sig Ow
  rw [bigSep_tl i]
  iintro #HR ⟨⟨%W, HO⟩, ⟨Ht, Hf⟩, Hrest⟩ Hk
  iapply (Rounds.wp_signal 𝒱₀ ER (ringRd x) (c : Thread nD τ) none (dst := (up c (i.val + 1) : Thread nD τ)) (κ := K (up c (i.val + 1), none))
    (d := rv i) (by rw [duties_bar]; exact Finset.mem_univ _) ((amount_bar x (up c (i.val + 1)) (rv i)).trans (by decide)) () (OB c (i.val + 1)) (OB_step c i))
    $$ [HO Ht Hf]
  · isplitr; · iapply (records_inv x K (up c (i.val + 1), none)); iexact HR
    isplitl [HO]; · iexact HO
    isplitl [Ht]; · iexact Ht
    isplitl [Hf]
    · rw [payload_bar]; unfold barPay
      rw [up_rv, show 15 - (rv i).val = i.val + 1 by have := i.isLt; rw [rv_val]; omega]
      isplitl [Hf]; · iexact Hf
      iapply (records_reached x K (c, some (true, rv i))); iexact HR
    iapply (records_reached x K (up c (i.val + 1), none)); iexact HR
  iintro HO
  iapply Hk
  isplitl [HO]; · iexists W; iexact HO
  iexact Hrest

/-- The barrier wait. -/
theorem step_barrier {α : Type} {Q : α → sProp 𝕄} {k : PUnit → Prog (TpuEff nD τ sig (Elt F) Λ₀ .tc) α} (c : Dev nD) :
    records x K ⊢ iprop(Sig c 15 -∗ cred (tallyAt (barCell c) () 15) -∗ atPos ER (barCell c) 0 ∅ 0
      -∗ ((Ow c (OR c 0) ∗ atPos ER (barCell c) 1 ∅ 0 ∗ bigSep Finset.univ fun i => barPay c i) -∗ WP c (k ⟨⟩) Q)
      -∗ WP c (.op (.semWait barS (15#32 : BitVec 32).toInt) k) Q) := by
  unfold Sig Ow
  rw [OB_15]
  iintro #HR ⟨⟨%W, HO⟩, -⟩ Hc Hat Hk
  iapply (Rounds.wp_wait_rest_token 𝒱₀ ER (ringRd x) (c : Thread nD τ) none (κ := K (c, none))
    (wpE_semWait_eq 𝒱₀ (c : Thread nD τ) none Set.univ) (Set.mem_univ _) () (O := OR c 0) (W := W) (R := 0) (m := 0) (T := ∅)
    (by rw [expect_bar]; decide)) $$ [HO Hc Hat]
  · isplitr; · iapply (records_inv x K (c, none)); iexact HR
    isplitl [Hc]; · iexact Hc
    isplitl [HO]; · iexact HO
    isplitr; · iapply (wait_bar_of_records x K c); iexact HR
    iexact Hat
  rw [rest_bar]
  iintro ⟨HO, Hat, -, Hp⟩
  iapply Hk
  isplitl [HO]; · iexists _; iexact HO
  isplitl [Hat]; · iexact Hat
  iexact Hp

set_option maxHeartbeats 1000000 in
/-- The copy at offset `i + 1`: row block `c + i + 1` of the local activations into column block `15 - i` of that device's
    exchanged ones. -/
theorem step_send {α : Type} {Q : α → sProp 𝕄} {k : PUnit → Prog (TpuEff nD τ sig (Elt F) Λ₀ .tc) α} (c : Dev nD) (i : Fin 15)
    (n : Dev nD) (hn : n.val = (c.val + (i.val + 1)) % 16) {off off' : Fin 2 → ℕ} {inb inb'} {sS sR : DmaSem sig}
    (hoff : off = ![256 * ((c.val + i.val + 1) % 16), 0]) (hoff' : off' = ![0, 256 * (15 - i.val)]) (hS : sS = sendS i) (hR : sR = recvS i)
    {hsc : (xtW off' inb' : Memref sig (Dev.tc n : Thread nD τ).2.kind .vmem S256x256 .fp8e4m3).view.ref.isScScratch = false}
    {hsrc : (xsW off inb).view.WordExact} {hdst : (xtW off' inb').view.WordExact}
    {hsem : DmaTarget.Typed .vmem (.dma sR) (.remote (Dev.tc n : Thread nD τ) (xtW off' inb' : Memref sig (Dev.tc n : Thread nD τ).2.kind .vmem S256x256 .fp8e4m3) (.dma sS) hsc)} :
    records x K ⊢ iprop(Snd x c i.val -∗ (Snd x c (i.val + 1) -∗ WP c (k ⟨⟩) Q)
      -∗ WP c (.op (.enqueueDma (xsW off inb) (.remote (Dev.tc n : Thread nD τ) (xtW off' inb') (.dma sS) hsc) (.dma sR) hsrc hdst hsem) k) Q) := by
  obtain rfl : n = up c (i.val + 1) := Fin.ext hn
  subst hS hR
  replace hoff : off = ![256 * (up c (i.val + 1)).val, 0] := hoff
  have hi := i.isLt
  have e1 : sendPay x c i = (((xsW off inb).view.loc (c : Thread nD τ)) ↦[(xsW off inb).view.set]{fullShare} x c : sProp 𝕄) := by
    unfold sendPay xsPts; rw [xsW_set hoff inb]
  have e2 : ∀ f, xtPts (up c (i.val + 1)) (15 - i.val) f
      = (((xtW off' inb').view.loc (up c (i.val + 1) : Thread nD τ)) ↦[(xtW off' inb').view.set]{fullShare} f : sProp 𝕄) := by
    intro f; unfold xtPts; rw [xtW_set hoff' inb']
  unfold Snd Ow
  rw [bigSep_tl i, bigSep_hd i]
  unfold barPay sendIn
  rw [e1]
  iintro #HR ⟨⟨%W, HO⟩, ⟨⟨⟨⟨%fd, Hd⟩, #Hr⟩, Ht₁, Ht₂, Hs⟩, Hrest⟩, Hdone⟩ Hk
  ihave Hd := (Entails.of_eq (e2 fd)) $$ Hd
  iapply (Rounds.wp_send_pointsTo 𝒱₀ ER (ringRd x) (c : Thread nD τ) none (κ₁ := K (c, some (false, i))) (κ₂ := K (up c (i.val + 1), some (true, i)))
    (r₁ := 0) (r₂ := 0) (d₁ := 0) (d₂ := 0) (fd := fd)
    (by rw [duties_send]; exact Finset.mem_singleton_self _) (by rw [duties_recv]; exact Finset.mem_singleton_self _)
    () () NX (amount_xtW inb' _) (amount_send x c i 0) (amount_recv x (up c (i.val + 1)) i 0) (OR c (i.val + 1)) (OR_step c i) (W := W)
    (by rw [payload_send, e1])
    (by
      rw [payload_recv]; unfold recvPay; rw [e2]
      refine Entails.of_eq (pointsTo_congr (write_agrees (xtW off' inb').view fd (XT x (up c (i.val + 1))) _ ?_))
      exact xt_read x (j := 15 - i.val) (by rw [up_up, show i.val + 1 + (15 - i.val) = 16 by omega, up_16]) (by omega) hoff hoff' inb inb'))
    $$ [HO Ht₁ Ht₂ Hs Hd]
  · isplitr; · iapply (records_inv x K (c, some (false, i))); iexact HR
    isplitr; · iapply (records_inv x K (up c (i.val + 1), some (true, i))); iexact HR
    isplitl [Hs]; · iexact Hs
    isplitl [Hd]; · iexact Hd
    isplitl [HO]; · iexact HO
    isplitl [Ht₁]; · iexact Ht₁
    isplitr; · iapply (records_reached x K (c, some (false, i))); iexact HR
    isplitl [Ht₂]; · iexact Ht₂
    iexact Hr
  iintro ⟨Hc, HO⟩
  iapply Hk
  isplitl [HO]; · iexists W; iexact HO
  isplitl [Hrest]; · iexact Hrest
  isplitl [Hc]; · iexact Hc
  iexact Hdone

/-- The wait for the copy at offset `i + 1` towards `c`. -/
theorem step_recv {α : Type} {Q : α → sProp 𝕄} {k : PUnit → Prog (TpuEff nD τ sig (Elt F) Λ₀ .tc) α} (c : Dev nD) (i : Fin 15)
    {sR : DmaSem sig} (hR : sR = recvS i) {sp : Space} {s : Shape} {e : EltTy} {a : Memref sig .tc sp s e} {off inb}
    {ha : a.view.WordExact} {hb : (xtW off inb).view.WordExact} :
    records x K ⊢ iprop(Ow c 0 -∗ Rcv x c i.val -∗ ((Ow c 0 ∗ Rcv x c (i.val + 1)) -∗ WP c (k ⟨⟩) Q)
      -∗ WP c (.op (.waitDma2 sR a (xtW off inb) ha hb) k) Q) := by
  subst hR
  unfold Rcv Ow
  rw [bigSep_tl i, bigSep_hd i]
  iintro #HR ⟨%W, HO⟩ ⟨⟨⟨Hc, Hat⟩, Hrest⟩, Hdone⟩ Hk
  iapply (Rounds.wp_wait_rest_token 𝒱₀ ER (ringRd x) (c : Thread nD τ) none (κ := K (c, some (true, i)))
    (wpE_waitDma2_eq 𝒱₀ (c : Thread nD τ) none Set.univ) (Set.mem_univ _) () (O := 0) (W := W) (R := 0) (m := 0) (T := ∅)
    (by rw [credit_xtW inb, zero_add, expect_recv])) $$ [HO Hc Hat]
  · isplitr; · iapply (records_inv x K (c, some (true, i))); iexact HR
    isplitl [Hc]; · rw [credit_xtW inb]; iexact Hc
    isplitl [HO]; · iexact HO
    isplitr; · rw [MayWait_zero]; iempintro
    iexact Hat
  rw [rest_recv]
  iintro ⟨HO, Hat, -, Hp⟩
  iapply Hk
  isplitl [HO]; · iexists _; iexact HO
  isplitl [Hrest]; · iexact Hrest
  isplitl [Hat Hp]
  · isplitl [Hat]; · iexact Hat
    iexact Hp
  iexact Hdone

/-- The wait for `c`'s own copy at offset `i + 1`. -/
theorem step_sent {α : Type} {Q : α → sProp 𝕄} {k : PUnit → Prog (TpuEff nD τ sig (Elt F) Λ₀ .tc) α} (c : Dev nD) (i : Fin 15)
    {sS : DmaSem sig} (hS : sS = sendS i) {sp : Space} {s : Shape} {e : EltTy} {a : Memref sig .tc sp s e} {off inb}
    {ha : a.view.WordExact} {hb : (xsW off inb).view.WordExact} :
    records x K ⊢ iprop(Ow c 0 -∗ Swt x c i.val -∗ ((Ow c 0 ∗ Swt x c (i.val + 1)) -∗ WP c (k ⟨⟩) Q)
      -∗ WP c (.op (.waitDma2 sS a (xsW off inb) ha hb) k) Q) := by
  subst hS
  unfold Swt Ow
  rw [bigSep_tl i, bigSep_hd i]
  iintro #HR ⟨%W, HO⟩ ⟨⟨⟨Hc, Hat⟩, Hrest⟩, Hdone⟩ Hk
  iapply (Rounds.wp_wait_rest_token 𝒱₀ ER (ringRd x) (c : Thread nD τ) none (κ := K (c, some (false, i)))
    (wpE_waitDma2_eq 𝒱₀ (c : Thread nD τ) none Set.univ) (Set.mem_univ _) () (O := 0) (W := W) (R := 0) (m := 0) (T := ∅)
    (by rw [credit_xsW inb, zero_add, expect_send])) $$ [HO Hc Hat]
  · isplitr; · iapply (records_inv x K (c, some (false, i))); iexact HR
    isplitl [Hc]; · rw [credit_xsW inb]; iexact Hc
    isplitl [HO]; · iexact HO
    isplitr; · rw [MayWait_zero]; iempintro
    iexact Hat
  rw [rest_send]
  iintro ⟨HO, Hat, -, Hp⟩
  iapply Hk
  isplitl [HO]; · iexists _; iexact HO
  isplitl [Hrest]; · iexact Hrest
  isplitl [Hat Hp]
  · isplitl [Hat]; · iexact Hat
    iexact Hp
  iexact Hdone

/-! ## The weight copies -/

/-- The `i`-th weight copy's start. -/
theorem step_fetch {α : Type} {Q : α → sProp 𝕄} {k : PUnit → Prog (TpuEff nD τ sig (Elt F) Λ₀ .tc) α} (c : Dev nD) (i : Fin 16) (d : ℕ) (hd : d ≤ i.val)
    {off : Fin 2 → ℕ} {off' : Fin 3 → ℕ} {inb inb'} {sm : DmaSem sig}
    (q : ℕ) (hq : qs i = q) (hoff : off = ![256 * ((c.val + q) % 16), 0]) (hoff' : off' = ![(slot i).val, 0, 0]) (hsm : sm = wS (slot i))
    {hsrc : (wW off inb).view.WordExact} {hdst : (wtW off' inb').view.WordExact}
    {hsem : DmaTarget.Typed (nD := nD) .hbm (.dma sm) (.here (p := (.tc : Proc τ)) (wtW off' inb'))} :
    Dq w c i.val d ⊢ iprop(Free c (slot i) -∗ (Dq w c (i.val + 1) d -∗ WP c (k ⟨⟩) Q)
      -∗ WP c (.op (.enqueueDma (wW off inb) (.here (wtW off' inb')) (.dma sm) hsrc hdst hsem) k) Q) := by
  subst hsm hq
  replace hoff : off = ![256 * (up c (qs i)).val, 0] := hoff
  have e1 : wPts c (up c (qs i)).val (w c) = (((wW off inb).view.loc (c : Thread nD τ)) ↦[(wW off inb).view.set]{fullShare} w c : sProp 𝕄) := by
    unfold wPts; rw [wW_set hoff inb]
  have e2 : ∀ f, wtPts c (slot i).val f
      = (((wtW off' inb').view.loc (c : Thread nD τ)) ↦[(wtW off' inb').view.set]{fullShare} f : sProp 𝕄) := by
    intro f; unfold wtPts; rw [wtW_set hoff' inb']
  unfold Dq Free
  rw [bigSep_tl i, bigSep_mid_start i rfl hd, e1]
  iintro ⟨⟨Hs, Hrest⟩, Hmid, Hdone⟩ ⟨⟨%fd, Hd⟩, Hv⟩ Hk
  ihave Hd := (Entails.of_eq (e2 fd)) $$ Hd
  iapply (Transfers.wp_dmaLocal EC 𝒱₀ (c : Thread nD τ) none () NW (amount_wtW inb' _) NW_pos (Finset.Subset.refl _)) $$ [Hs Hd Hv]
  · isplitl [Hs]; · iexact Hs
    isplitl [Hd]; · iexact Hd
    iexact Hv
  iintro HF
  iapply Hk
  isplitl [Hrest]; · iexact Hrest
  isplitl [HF Hmid]
  · isplitl [HF]
    · unfold Fl
      iapply (Transfers.Flight_mono EC (c := (c : Thread nD τ)) ?_) $$ HF
      rw [e1, e2]
      refine sep_mono_left (Entails.of_eq (pointsTo_congr (write_agrees (wtW off' inb').view fd (WT w c i) _ ?_)))
      exact wt_read w hoff hoff' inb inb'
    iexact Hmid
  iexact Hdone

/-- The wait for the `i`-th weight copy. -/
theorem step_fetched {α : Type} {Q : α → sProp 𝕄} {k : PUnit → Prog (TpuEff nD τ sig (Elt F) Λ₀ .tc) α} (c : Dev nD) (i : Fin 16) (n : ℕ) (hn : i.val < n)
    {sm : DmaSem sig} (hsm : sm = wS (slot i)) {sp : Space} {s : Shape} {e : EltTy} {a : Memref sig .tc sp s e} {off inb}
    {ha : a.view.WordExact} {hb : (wtW off inb).view.WordExact} :
    Dq w c n i.val ⊢ iprop(Ow c 0 -∗ ((Ow c 0 ∗ Dq w c n (i.val + 1) ∗ Cur w c i) -∗ WP c (k ⟨⟩) Q)
      -∗ WP c (.op (.waitDma2 sm a (wtW off inb) ha hb) k) Q) := by
  subst hsm
  unfold Dq Cur Ow
  rw [bigSep_mid_wait i rfl hn, bigSep_hd i]
  unfold Fl
  iintro ⟨Hrest, ⟨HF, Hmid⟩, Hdone⟩ ⟨%W, HO⟩ Hk
  iapply (Transfers.wp_waitLocalO EC 𝒱₀ (c : Thread nD τ) none () (credit_wtW inb) (O := 0) (W := W)) $$ [HF HO]
  · isplitl [HF]; · iexact HF
    isplitl [HO]; · iexact HO
    rw [MayWait_zero]; iempintro
  iintro ⟨⟨Hwt, Hw⟩, Hv, HO⟩
  iapply Hk
  isplitl [HO]; · iexists _; iexact HO
  isplitl [Hrest Hmid Hdone Hw]
  · isplitl [Hrest]; · iexact Hrest
    isplitl [Hmid]; · iexact Hmid
    isplitl [Hw]; · iexact Hw
    iexact Hdone
  isplitl [Hwt]; · iexact Hwt
  iexact Hv

/-- The load of a landed weight block. -/
theorem step_load_wt {α : Type} {Q : α → sProp 𝕄} {k : Vec F S1x256x2048 .f32 → Prog (TpuEff nD τ sig (Elt F) Λ₀ .tc) α} (c : Dev nD) (i : Fin 16)
    {off : Fin 3 → ℕ} {inb : ∀ a, off a + S1x256x2048.size a ≤ S4x256x2048.size a} (hoff : off = ![(slot i).val, 0, 0])
    {hl : wtM.view.LoadsAt (Rect.unit (s := S4x256x2048) off S1x256x2048.size inb).toLoadRect} :
    Cur w c i ⊢ iprop((Cur w c i -∗ WP c (k (wBlk w c (qs i))) Q)
      -∗ WP c (.op (.load wtM (Rect.unit (s := S4x256x2048) off S1x256x2048.size inb).toLoadRect hl) k) Q) := by
  unfold Cur wtPts
  iintro ⟨H, Hv⟩ Hk
  iapply (wp_load 𝒱₀ (c : Thread nD τ) none Set.univ (m := wtM) (r := (Rect.unit (s := S4x256x2048) off S1x256x2048.size inb).toLoadRect)
    (S := wtSlot (slot i).val) ?_) $$ H
  · show wtM.view.setOn (Rect.unit (s := S4x256x2048) off S1x256x2048.size inb).set ⊆ _
    rw [slot_set hoff inb]
    exact whole_setOn _
  iintro H
  rw [wt_load w hoff inb]
  iapply Hk
  isplitl [H]; · iexact H
  iexact Hv

/-- The load of the converted weights' row block before it is stored, its value unused. -/
theorem step_load_wc {α : Type} {Q : α → sProp 𝕄} {k : Vec F S256x2048 .fp8e4m3 → Prog (TpuEff nD τ sig (Elt F) Λ₀ .tc) α} (c : Dev nD) (i : Fin 16)
    {off : Fin 2 → ℕ} {inb : ∀ a, off a + S256x2048.size a ≤ S4096x2048.size a} (hoff : off = ![256 * qs i, 0])
    {hl : wcM.view.LoadsAt (Rect.unit (s := S4096x2048) off S256x2048.size inb).toLoadRect} :
    Wcs w c i.val ⊢ iprop((∀ v, Wcs w c i.val -∗ WP c (k v) Q)
      -∗ WP c (.op (.load wcM (Rect.unit (s := S4096x2048) off S256x2048.size inb).toLoadRect hl) k) Q) := by
  unfold Wcs wcPts
  rw [bigSep_tl i]
  iintro ⟨Hdone, ⟨%f, H⟩, Hrest⟩ Hk
  iapply (wp_load 𝒱₀ (c : Thread nD τ) none Set.univ (m := wcM) (r := (Rect.unit (s := S4096x2048) off S256x2048.size inb).toLoadRect)
    (S := wRow (qs i)) ?_) $$ H
  · show wcM.view.setOn (Rect.unit (s := S4096x2048) off S256x2048.size inb).set ⊆ _
    rw [rows_set (n := 2048) hoff inb]
    exact whole_setOn _
  iintro H
  iapply Hk
  isplitl [Hdone]; · iexact Hdone
  isplitl [H]; · iexists f; iexact H
  iexact Hrest

/-- The store of the `i`-th converted weight block. -/
theorem step_store_wc {α : Type} {Q : α → sProp 𝕄} {k : PUnit → Prog (TpuEff nD τ sig (Elt F) Λ₀ .tc) α} (c : Dev nD) (i : Fin 16)
    {off : Fin 2 → ℕ} {inb : ∀ a, off a + S256x2048.size a ≤ S4096x2048.size a} (hoff : off = ![256 * qs i, 0])
    {u : Vec F S256x2048 .fp8e4m3} (hu : u = k0_pay3 (wBlk w c (qs i)))
    {hx : (wcM.access (Rect.unit (s := S4096x2048) off S256x2048.size inb) : View sig .tc _ _ _).Stores Finset.univ}
    {hm : (Finset.univ : Finset (Rect.unit (s := S4096x2048) off S256x2048.size inb).shape.Idx) = Finset.univ ∨ ∀ a, (Rect.unit (s := S4096x2048) off S256x2048.size inb).stride a = 1} :
    Wcs w c i.val ⊢ iprop((Wcs w c (i.val + 1) -∗ WP c (k ⟨⟩) Q)
      -∗ WP c (.op (.store wcM (Rect.unit (s := S4096x2048) off S256x2048.size inb) u Finset.univ hx hm) k) Q) := by
  have hset : (wcM.access (Rect.unit (s := S4096x2048) off S256x2048.size inb) : View sig .tc _ _ _).set = wRow (qs i) :=
    (View.set_slice_whole _ _).trans (rows_set (n := 2048) hoff inb)
  unfold Wcs
  rw [bigSep_tl i, bigSep_hd i]
  unfold wcPts
  iintro ⟨Hdone, ⟨%f, H⟩, Hrest⟩ Hk
  iapply (wp_store 𝒱₀ (c : Thread nD τ) none Set.univ (m := wcM) (r := Rect.unit (s := S4096x2048) off S256x2048.size inb) (Mk := Finset.univ)
    (S := wRow (qs i)) (by rw [View.setOn_univ, hset])) $$ H
  iintro H
  have hw : ∀ j ∈ wRow (qs i), (wcM.access (Rect.unit (s := S4096x2048) off S256x2048.size inb) : View sig .tc _ _ _).write (Elt F) f u Finset.univ j = WC w c j := by
    rw [← hset]
    exact write_agrees (wcM.access (Rect.unit (s := S4096x2048) off S256x2048.size inb) : View sig .tc _ _ _) f (WC w c) u
      ((wc_read w hoff inb).trans hu.symm)
  ihave H := (Entails.of_eq (pointsTo_congr hw)) $$ H
  iapply Hk
  isplitl [Hdone H]
  · isplitl [H]; · iexact H
    iexact Hdone
  iexact Hrest

/-! ## Loads of several windows at once -/

/-- Windows of one buffer, pairwise disjoint, are their union's. -/
theorem step_load_windows {α : Type} {Q : α → sProp 𝕄} {sp : CoreSpace} {s : Shape} {e : EltTy} {m : Memref sig .tc sp s e} {N : ℕ} {T : Finset (Fin N)}
    (c : Dev nD) {W : Fin N → Finset (Idx (m.view.loc (c : Thread nD τ)))} {f : Buf (Elt F) (m.view.loc (c : Thread nD τ))}
    {r : LoadRect s} {hl : m.view.LoadsAt r} {k : (r.shape.Idx → Elt F e) → Prog (TpuEff nD τ sig (Elt F) Λ₀ .tc) α}
    (hW : ∀ i ∈ T, ∀ j ∈ T, i ≠ j → Disjoint (W i) (W j)) (hS : m.view.setOn r.set ⊆ T.biUnion W) :
    (bigSep T fun i => (m.view.loc (c : Thread nD τ)) ↦[W i]{fullShare} f)
      ⊢ iprop(((bigSep T fun i => (m.view.loc (c : Thread nD τ)) ↦[W i]{fullShare} f) -∗ WP c (k (m.view.readAt (Elt F) r f)) Q)
        -∗ WP c (.op (.load m r hl) k) Q) := by
  rw [← pointsTo_biUnion T W hW]
  exact wp_load 𝒱₀ (c : Thread nD τ) none Set.univ hS

/-- A load of the column blocks that have arrived. -/
theorem step_load_xt {α : Type} {Q : α → sProp 𝕄} (c : Dev nD) (n : ℕ) {r : LoadRect S256x4096} {hl : xtM.view.LoadsAt r}
    {k : (r.shape.Idx → Elt F .fp8e4m3) → Prog (TpuEff nD τ sig (Elt F) Λ₀ .tc) α}
    (hS : r.set ⊆ (hd 15 n).biUnion fun i => xtCol (15 - i.val)) :
    Rcv x c n ⊢ iprop((Rcv x c n -∗ WP c (k (xtM.view.readAt (Elt F) r (XT x c))) Q) -∗ WP c (.op (.load xtM r hl) k) Q) := by
  unfold Rcv recvPay xtPts
  rw [bigSep_sep' (hd 15 n)]
  iintro ⟨Ht, Hat, H⟩ Hk
  iapply (step_load_windows (m := xtM) c (W := fun i : Fin 15 => xtCol (15 - i.val)) (f := XT x c) (r := r) (hl := hl) ?_ ((whole_setOn _).trans hS)) $$ H
  · intro i _ j _ hij
    rw [Finset.disjoint_left]
    intro y hy hy'
    have := i.isLt; have := j.isLt
    exact hij (Fin.ext (by have := mem_xtCol.mp hy; have := mem_xtCol.mp hy'; omega))
  iintro H
  iapply Hk
  isplitl [Ht]; · iexact Ht
  isplitl [Hat]; · iexact Hat
  iexact H

/-- A load of converted weight blocks. -/
theorem step_load_wcs {α : Type} {Q : α → sProp 𝕄} (c : Dev nD) (n : ℕ) {r : LoadRect S4096x2048} {hl : wcM.view.LoadsAt r}
    {k : (r.shape.Idx → Elt F .fp8e4m3) → Prog (TpuEff nD τ sig (Elt F) Λ₀ .tc) α}
    (hS : r.set ⊆ (hd 16 n).biUnion fun i => wRow (qs i)) :
    Wcs w c n ⊢ iprop((Wcs w c n -∗ WP c (k (wcM.view.readAt (Elt F) r (WC w c))) Q) -∗ WP c (.op (.load wcM r hl) k) Q) := by
  unfold Wcs wcPts
  iintro ⟨H, Ht⟩ Hk
  iapply (step_load_windows (m := wcM) c (W := fun i : Fin 16 => wRow (qs i)) (f := WC w c) (r := r) (hl := hl) ?_ ((whole_setOn _).trans hS)) $$ H
  · intro i _ j _ hij
    rw [Finset.disjoint_left]
    intro y hy hy'
    exact hij (qEquiv.injective (Fin.ext ((mem_wRow.mp hy).symm.trans (mem_wRow.mp hy'))))
  iintro H
  iapply Hk
  isplitl [H]; · iexact H
  iexact Ht

/-! ## One weight block's conversion; the next copy into its slot -/

/-- A landed weight block loaded, converted and stored as the `i`-th row block of the converted weights. -/
theorem step_convert {α : Type} {Q : α → sProp 𝕄} {k : PUnit → Prog (TpuEff nD τ sig (Elt F) Λ₀ .tc) α} (c : Dev nD) (i : Fin 16)
    {off : Fin 3 → ℕ} {inb : ∀ a, off a + S1x256x2048.size a ≤ S4x256x2048.size a} (hoff : off = ![(slot i).val, 0, 0])
    {hl : wtM.view.LoadsAt (Rect.unit (s := S4x256x2048) off S1x256x2048.size inb).toLoadRect}
    {off' : Fin 2 → ℕ} {inb' : ∀ a, off' a + S256x2048.size a ≤ S4096x2048.size a} (hoff' : off' = ![256 * qs i, 0])
    {hl' : wcM.view.LoadsAt (Rect.unit (s := S4096x2048) off' S256x2048.size inb').toLoadRect}
    {p : Vec F S1x256x2048 .f32 → Vec F S256x2048 .fp8e4m3} (hp : ∀ v, p v = k0_pay3 v)
    {hx : (wcM.access (Rect.unit (s := S4096x2048) off' S256x2048.size inb') : View sig .tc _ _ _).Stores Finset.univ}
    {hm : (Finset.univ : Finset (Rect.unit (s := S4096x2048) off' S256x2048.size inb').shape.Idx) = Finset.univ ∨ ∀ a, (Rect.unit (s := S4096x2048) off' S256x2048.size inb').stride a = 1} :
    Cur w c i ⊢ iprop(Wcs w c i.val -∗ ((Cur w c i ∗ Wcs w c (i.val + 1)) -∗ WP c (k ⟨⟩) Q)
      -∗ WP c (.op (.load wtM (Rect.unit (s := S4x256x2048) off S1x256x2048.size inb).toLoadRect hl) fun v =>
        .op (.load wcM (Rect.unit (s := S4096x2048) off' S256x2048.size inb').toLoadRect hl') fun _ =>
          .op (.store wcM (Rect.unit (s := S4096x2048) off' S256x2048.size inb') (p v) Finset.univ hx hm) k) Q) := by
  iintro HC HW Hk
  iapply (step_load_wt w c i hoff) $$ HC
  iintro HC
  iapply (step_load_wc w c i hoff') $$ HW
  iintro %v HW
  iapply (step_store_wc w c i hoff' (hp _)) $$ HW
  iintro HW
  iapply Hk
  isplitl [HC]; · iexact HC
  iexact HW

/-- The `i`-th weight copy's start, into the slot of the `j`-th, landed. -/
theorem step_refetch {α : Type} {Q : α → sProp 𝕄} {k : PUnit → Prog (TpuEff nD τ sig (Elt F) Λ₀ .tc) α} (c : Dev nD) (i j : Fin 16) (hs : slot j = slot i)
    (d : ℕ) (hd : d ≤ i.val) {off : Fin 2 → ℕ} {off' : Fin 3 → ℕ} {inb inb'} {sm : DmaSem sig}
    (q : ℕ) (hq : qs i = q) (hoff : off = ![256 * ((c.val + q) % 16), 0]) (hoff' : off' = ![(slot i).val, 0, 0]) (hsm : sm = wS (slot i))
    {hsrc : (wW off inb).view.WordExact} {hdst : (wtW off' inb').view.WordExact}
    {hsem : DmaTarget.Typed (nD := nD) .hbm (.dma sm) (.here (p := (.tc : Proc τ)) (wtW off' inb'))} :
    Dq w c i.val d ⊢ iprop(Cur w c j -∗ (Dq w c (i.val + 1) d -∗ WP c (k ⟨⟩) Q)
      -∗ WP c (.op (.enqueueDma (wW off inb) (.here (wtW off' inb')) (.dma sm) hsrc hdst hsem) k) Q) := by
  iintro HD HC Hk
  ihave HF := (Cur_free w c j) $$ HC
  rw [hs]
  iapply (step_fetch w c i d hd q hq hoff hoff' hsm) $$ HD HF Hk

end Cert.A2A

end
-- ==== Proof.Exchange.lean ====
/- The exchange, part by part as the kernel is printed: the signals, the barrier, the copies, the waits for them. -/
module

public import proofs.«01_k».proof.Proof.Steps
public import proofs.«01_k».proof.Proof.Gen.KernelIdeal.Skeleton
public import Idealize.ShloMosaic.Lib.Pipeline.Value

@[expose] public section

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Vec F S4096x256 .fp8e4m3) (w : Dev nD → Vec F S4096x2048 .f32) (K : Dev nD × CI → ℕ)

/-! ## What the kernel is called on -/

abbrev xM : Memref sig .tc .vmem S4096x256 .fp8e4m3 := Memref.whole cc0_stg0_0
abbrev sxM : Memref sig .tc .smem S1 .f32 := Memref.whole cc0_stg1_0
abbrev swM : Memref sig .tc .smem S1 .f32 := Memref.whole cc0_stg2_0
abbrev oM : Memref sig .tc .vmem S256x2048 .f32 := Memref.whole cc0_stg3_0

/-- A part of the kernel on the buffers and semaphores the kernel is called on. -/
abbrev called {β : Type 1} (p : ∀ a0 : Memref sig .tc .vmem S4096x256 .fp8e4m3, a0.IsWhole → ∀ a1 : Memref sig .tc .hbm S4096x2048 .f32, a1.IsWhole →
    ∀ a2 : Memref sig .tc .smem S1 .f32, a2.IsWhole → ∀ a3 : Memref sig .tc .smem S1 .f32, a3.IsWhole → ∀ a4 : Memref sig .tc .vmem S256x2048 .f32, a4.IsWhole →
    ∀ a5 : Memref sig .tc .vmem S4096x256 .fp8e4m3, a5.IsWhole → ∀ a6 : Memref sig .tc .vmem S256x4096 .fp8e4m3, a6.IsWhole →
    ∀ a7 : Memref sig .tc .vmem S4096x2048 .fp8e4m3, a7.IsWhole → ∀ a8 : Memref sig .tc .vmem S4x256x2048 .f32, a8.IsWhole →
    DmaSems sig S16 → DmaSems sig S16 → DmaSems sig S4 → β) : β :=
  p xM (Memref.isWhole_whole _) wM (Memref.isWhole_whole _) sxM (Memref.isWhole_whole _) swM (Memref.isWhole_whole _) oM (Memref.isWhole_whole _)
    xsM (Memref.isWhole_whole _) xtM (Memref.isWhole_whole _) wcM (Memref.isWhole_whole _) wtM (Memref.isWhole_whole _) cc0_scratch4 cc0_scratch5 cc0_scratch6

/-- All of buffer `b` of device `c`, holding `f`. -/
abbrev full (c : Dev nD) (b : Ref sig .tc) (f : b.ty.Contents (Elt F)) : sProp 𝕄 := ((c : Thread nD τ).loc b) ↦{fullShare} f

theorem hz : (![0, 0] : Fin 2 → ℕ) = fun _ => 0 := funext fun a => by match a with | 0 => rfl | 1 => rfl
theorem hz1 : (![0] : Fin 1 → ℕ) = fun _ => 0 := funext fun a => by match a with | 0 => rfl

/-- A load of a buffer held whole. -/
theorem step_load_all {α : Type} {Q : α → sProp 𝕄} {sp : CoreSpace} {s : Shape} {e : EltTy} {m : Memref sig .tc sp s e} (c : Dev nD)
    {f : Buf (Elt F) (m.view.loc (c : Thread nD τ))} {r : LoadRect s} {g : r.shape.Idx → Elt F e} (h : m.view.readAt (Elt F) r f = g)
    {hl : m.view.LoadsAt r} {k : (r.shape.Idx → Elt F e) → Prog (TpuEff nD τ sig (Elt F) Λ₀ .tc) α} :
    ((m.view.loc (c : Thread nD τ)) ↦{fullShare} f)
      ⊢ iprop((((m.view.loc (c : Thread nD τ)) ↦{fullShare} f) -∗ WP c (k g) Q) -∗ WP c (.op (.load m r hl) k) Q) := by
  subst h
  exact wp_load 𝒱₀ (c : Thread nD τ) none Set.univ (Finset.subset_univ _)

theorem write_xs (f u : Vec F S4096x256 .fp8e4m3) (inb : ∀ a, (![0, 0] : Fin 2 → ℕ) a + S4096x256.size a ≤ S4096x256.size a) :
    (xsM.access (Rect.unit (s := S4096x256) ![0, 0] S4096x256.size inb) : View sig .tc _ _ _).write (Elt F) f u Finset.univ = u :=
  Memref.write_access_unit_zero_univ (Elt F) cc0_scratch0 hz inb f u

/-- The store over all of the staged activations. -/
theorem step_store_xs {α : Type} {Q : α → sProp 𝕄} {k : PUnit → Prog (TpuEff nD τ sig (Elt F) Λ₀ .tc) α} (c : Dev nD) (f : Vec F S4096x256 .fp8e4m3)
    {inb : ∀ a, (![0, 0] : Fin 2 → ℕ) a + S4096x256.size a ≤ S4096x256.size a} {u : Vec F S4096x256 .fp8e4m3}
    {hx : (xsM.access (Rect.unit (s := S4096x256) ![0, 0] S4096x256.size inb) : View sig .tc _ _ _).Stores Finset.univ}
    {hm : (Finset.univ : Finset (Rect.unit (s := S4096x256) ![0, 0] S4096x256.size inb).shape.Idx) = Finset.univ ∨ ∀ a, (Rect.unit (s := S4096x256) ![0, 0] S4096x256.size inb).stride a = 1} :
    full c cc0_scratch0 f ⊢ iprop((full c cc0_scratch0 u -∗ WP c (k ⟨⟩) Q)
      -∗ WP c (.op (.store xsM (Rect.unit (s := S4096x256) ![0, 0] S4096x256.size inb) u Finset.univ hx hm) k) Q) := by
  iintro H Hk
  iapply (wp_store 𝒱₀ (c : Thread nD τ) none Set.univ (m := xsM) (r := Rect.unit (s := S4096x256) ![0, 0] S4096x256.size inb) (Mk := Finset.univ)
    (Finset.subset_univ _)) $$ H
  iintro H
  rw [write_xs f u inb]
  iapply Hk
  iexact H

theorem write_out (f u : Vec F S256x2048 .f32) (inb : ∀ a, (![0, 0] : Fin 2 → ℕ) a + S256x2048.size a ≤ S256x2048.size a) :
    (oM.access (Rect.unit (s := S256x2048) ![0, 0] S256x2048.size inb) : View sig .tc _ _ _).write (Elt F) f u Finset.univ = u :=
  Memref.write_access_unit_zero_univ (Elt F) cc0_stg3_0 hz inb f u

/-- The store over all of the result. -/
theorem step_store_out {α : Type} {Q : α → sProp 𝕄} {k : PUnit → Prog (TpuEff nD τ sig (Elt F) Λ₀ .tc) α} (c : Dev nD) (f : Vec F S256x2048 .f32)
    {inb : ∀ a, (![0, 0] : Fin 2 → ℕ) a + S256x2048.size a ≤ S256x2048.size a} {u : Vec F S256x2048 .f32}
    {hx : (oM.access (Rect.unit (s := S256x2048) ![0, 0] S256x2048.size inb) : View sig .tc _ _ _).Stores Finset.univ}
    {hm : (Finset.univ : Finset (Rect.unit (s := S256x2048) ![0, 0] S256x2048.size inb).shape.Idx) = Finset.univ ∨ ∀ a, (Rect.unit (s := S256x2048) ![0, 0] S256x2048.size inb).stride a = 1} :
    full c cc0_stg3_0 f ⊢ iprop((full c cc0_stg3_0 u -∗ WP c (k ⟨⟩) Q)
      -∗ WP c (.op (.store oM (Rect.unit (s := S256x2048) ![0, 0] S256x2048.size inb) u Finset.univ hx hm) k) Q) := by
  iintro H Hk
  iapply (wp_store 𝒱₀ (c : Thread nD τ) none Set.univ (m := oM) (r := Rect.unit (s := S256x2048) ![0, 0] S256x2048.size inb) (Mk := Finset.univ)
    (Finset.subset_univ _)) $$ H
  iintro H
  rw [write_out f u inb]
  iapply Hk
  iexact H

/-- The device's own block: row block `c` of the local activations copied to column block 0 of the exchanged ones. -/
theorem step_own {α : Type} {Q : α → sProp 𝕄} {k : PUnit → Prog (TpuEff nD τ sig (Elt F) Λ₀ .tc) α} (c : Dev nD)
    {off : Fin 2 → ℕ} {inb : ∀ a, off a + S256x256.size a ≤ S4096x256.size a} (hoff : off = ![256 * c.val, 0])
    {hl : xsM.view.LoadsAt (Rect.unit (s := S4096x256) off S256x256.size inb).toLoadRect}
    {off' : Fin 2 → ℕ} {inb' : ∀ a, off' a + S256x256.size a ≤ S256x4096.size a} (hoff' : off' = ![0, 256 * 0])
    {hl' : xtM.view.LoadsAt (Rect.unit (s := S256x4096) off' S256x256.size inb').toLoadRect}
    {p : Vec F S256x256 .fp8e4m3 → Vec F S256x256 .fp8e4m3} (hp : ∀ v, p v = v)
    {hx : (xtM.access (Rect.unit (s := S256x4096) off' S256x256.size inb') : View sig .tc _ _ _).Stores Finset.univ}
    {hm : (Finset.univ : Finset (Rect.unit (s := S256x4096) off' S256x256.size inb').shape.Idx) = Finset.univ ∨ ∀ a, (Rect.unit (s := S256x4096) off' S256x256.size inb').stride a = 1} :
    xsPts c c.val (x c) ⊢ iprop((∃ f, xtPts c 0 f) -∗ ((xsPts c c.val (x c) ∗ xtPts c 0 (XT x c)) -∗ WP c (k ⟨⟩) Q)
      -∗ WP c (.op (.load xsM (Rect.unit (s := S4096x256) off S256x256.size inb).toLoadRect hl) fun v =>
        .op (.load xtM (Rect.unit (s := S256x4096) off' S256x256.size inb').toLoadRect hl') fun _ =>
          .op (.store xtM (Rect.unit (s := S256x4096) off' S256x256.size inb') (p v) Finset.univ hx hm) k) Q) := by
  have hset : (xtM.access (Rect.unit (s := S256x4096) off' S256x256.size inb') : View sig .tc _ _ _).set = xtCol 0 :=
    (View.set_slice_whole _ _).trans (cols_set hoff' inb')
  have hset' : (xsM.access (Rect.unit (s := S4096x256) off S256x256.size inb) : View sig .tc _ _ _).set = xsRow c.val :=
    (View.set_slice_whole _ _).trans (rows_set (n := 256) hoff inb)
  unfold xsPts xtPts
  iintro Hs ⟨%f, H⟩ Hk
  iapply (wp_load_rect 𝒱₀ (c : Thread nD τ) none Set.univ (m := xsM) (r := Rect.unit (s := S4096x256) off S256x256.size inb)
    (S := xsRow c.val) (by rw [hset'])) $$ Hs
  iintro Hs
  iapply (wp_load_rect 𝒱₀ (c : Thread nD τ) none Set.univ (m := xtM) (r := Rect.unit (s := S256x4096) off' S256x256.size inb')
    (S := xtCol 0) (by rw [hset])) $$ H
  iintro H
  iapply (wp_store 𝒱₀ (c : Thread nD τ) none Set.univ (m := xtM) (r := Rect.unit (s := S256x4096) off' S256x256.size inb') (Mk := Finset.univ)
    (S := xtCol 0) (by rw [View.setOn_univ, hset])) $$ H
  iintro H
  rw [hp]
  have hw : ∀ j ∈ xtCol 0, (xtM.access (Rect.unit (s := S256x4096) off' S256x256.size inb') : View sig .tc _ _ _).write (Elt F) f
      ((xsM.access (Rect.unit (s := S4096x256) off S256x256.size inb) : View sig .tc _ _ _).read (Elt F) (x c)) Finset.univ j = XT x c j := by
    rw [← hset]
    exact write_agrees (xtM.access (Rect.unit (s := S256x4096) off' S256x256.size inb') : View sig .tc _ _ _) f (XT x c) _
      (xt_read x (j := 0) (up_zero c).symm (by decide) hoff hoff' inb inb')
  ihave H := (Entails.of_eq (pointsTo_congr hw)) $$ H
  iapply Hk
  isplitl [Hs]; · iexact Hs
  iexact H

/-! ## The parts -/

/-- The local activations staged, four signals sent. -/
theorem part1 (c : Dev nD) {Q} :
    records x K ⊢ iprop(Sig c 0 -∗ full c cc0_stg0_0 (x c) -∗ (∃ f, full c cc0_scratch0 f)
      -∗ (∀ v2 v25 v16, (Sig c 4 ∗ full c cc0_stg0_0 (x c) ∗ full c cc0_scratch0 (x c)) -∗ Q ⟨c, v2, SemArray.scalar (sig.barrier 0 rfl), v25, v16⟩)
      -∗ WP c (called (k0_part1 (F := F))) Q) := by
  simp only [called, k0_part1_eq_skeleton]
  unfold k0_part1_skel
  simp only [WP, wp_deviceId, semSignalWord, semWaitWord, Prog.lift, Prog.bind_op, Prog.bind_ret, Prog.pure_eq_ret]
  iintro #HR HS Hx ⟨%f, Hs⟩ Hk
  iapply (step_load_all (m := xM) c (Memref.readAt_unit_zero (Elt F) cc0_stg0_0 hz _ (x c))) $$ Hx
  iintro Hx
  iapply (step_load_all (m := xsM) c (Memref.readAt_unit_zero (Elt F) cc0_scratch0 hz _ f)) $$ Hs
  iintro Hs
  iapply (step_store_xs c f) $$ Hs
  iintro Hs
  rw [show k0_pay1 (x c) = x c from (shapeCast_self _ _).trans (shapeCast_self _ _)]
  iapply (step_signal x K c ⟨0, Nat.le_of_ble_eq_true rfl⟩ ⟨k0_dev1 c, k0_dev1_lt c⟩ (k0_dev1_eq c)) $$ HR HS
  iintro HS
  iapply (step_signal x K c ⟨1, Nat.le_of_ble_eq_true rfl⟩ ⟨k0_dev2 c, k0_dev2_lt c⟩ (k0_dev2_eq c)) $$ HR HS
  iintro HS
  iapply (step_signal x K c ⟨2, Nat.le_of_ble_eq_true rfl⟩ ⟨k0_dev3 c, k0_dev3_lt c⟩ (k0_dev3_eq c)) $$ HR HS
  iintro HS
  iapply (step_signal x K c ⟨3, Nat.le_of_ble_eq_true rfl⟩ ⟨k0_dev4 c, k0_dev4_lt c⟩ (k0_dev4_eq c)) $$ HR HS
  iintro HS
  simp only [WP, wp_ret]
  imodintro
  iapply Hk
  isplitl [HS]; · iexact HS
  isplitl [Hx]; · iexact Hx
  iexact Hs

/-- Six signals sent. -/
theorem part2 (c : Dev nD) (v2 v25 v16 : BitVec 32) {Q} :
    records x K ⊢ iprop(Sig c 4 -∗ (∀ r, Sig c 10 -∗ Q r) -∗ WP c (called (k0_part2 (F := F)) c v2 (SemArray.scalar (sig.barrier 0 rfl)) v25 v16) Q) := by
  simp only [called, k0_part2_eq_skeleton]
  unfold k0_part2_skel
  simp only [semSignalWord, semWaitWord, Prog.lift, Prog.bind_op, Prog.bind_ret, Prog.pure_eq_ret]
  iintro #HR HS Hk
  iapply (step_signal x K c ⟨4, Nat.le_of_ble_eq_true rfl⟩ ⟨k0_dev5 c, k0_dev5_lt c⟩ (k0_dev5_eq c)) $$ HR HS
  iintro HS
  iapply (step_signal x K c ⟨5, Nat.le_of_ble_eq_true rfl⟩ ⟨k0_dev6 c, k0_dev6_lt c⟩ (k0_dev6_eq c)) $$ HR HS
  iintro HS
  iapply (step_signal x K c ⟨6, Nat.le_of_ble_eq_true rfl⟩ ⟨k0_dev7 c, k0_dev7_lt c⟩ (k0_dev7_eq c)) $$ HR HS
  iintro HS
  iapply (step_signal x K c ⟨7, Nat.le_of_ble_eq_true rfl⟩ ⟨k0_dev8 c, k0_dev8_lt c⟩ (k0_dev8_eq c)) $$ HR HS
  iintro HS
  iapply (step_signal x K c ⟨8, Nat.le_of_ble_eq_true rfl⟩ ⟨k0_dev9 c, k0_dev9_lt c⟩ (k0_dev9_eq c)) $$ HR HS
  iintro HS
  iapply (step_signal x K c ⟨9, Nat.le_of_ble_eq_true rfl⟩ ⟨k0_dev10 c, k0_dev10_lt c⟩ (k0_dev10_eq c)) $$ HR HS
  iintro HS
  simp only [WP, wp_ret]
  imodintro
  iapply Hk
  iexact HS

/-- The last five signals sent; the barrier. -/
theorem part3 (c : Dev nD) (v2 a b : BitVec 32) {Q} :
    records x K ⊢ iprop(Sig c 10 -∗ cred (tallyAt (barCell c) () 15) -∗ atPos ER (barCell c) 0 ∅ 0
      -∗ (∀ r, (Ow c (OR c 0) ∗ atPos ER (barCell c) 1 ∅ 0 ∗ bigSep Finset.univ fun i => barPay c i) -∗ Q r)
      -∗ WP c (called (k0_part3 (F := F)) c v2 (SemArray.scalar (sig.barrier 0 rfl)) a b) Q) := by
  simp only [called, k0_part3_eq_skeleton]
  unfold k0_part3_skel
  simp only [semSignalWord, semWaitWord, Prog.lift, Prog.bind_op, Prog.bind_ret, Prog.pure_eq_ret]
  iintro #HR HS Hc Hat Hk
  iapply (step_signal x K c ⟨10, Nat.le_of_ble_eq_true rfl⟩ ⟨k0_dev11 c, k0_dev11_lt c⟩ (k0_dev11_eq c)) $$ HR HS
  iintro HS
  iapply (step_signal x K c ⟨11, Nat.le_of_ble_eq_true rfl⟩ ⟨k0_dev12 c, k0_dev12_lt c⟩ (k0_dev12_eq c)) $$ HR HS
  iintro HS
  iapply (step_signal x K c ⟨12, Nat.le_of_ble_eq_true rfl⟩ ⟨k0_dev13 c, k0_dev13_lt c⟩ (k0_dev13_eq c)) $$ HR HS
  iintro HS
  iapply (step_signal x K c ⟨13, Nat.le_of_ble_eq_true rfl⟩ ⟨k0_dev14 c, k0_dev14_lt c⟩ (k0_dev14_eq c)) $$ HR HS
  iintro HS
  iapply (step_signal x K c ⟨14, Nat.le_of_ble_eq_true rfl⟩ ⟨k0_dev15 c, k0_dev15_lt c⟩ (k0_dev15_eq c)) $$ HR HS
  iintro HS
  iapply (step_barrier x K c) $$ HR HS Hc Hat
  iintro H
  simp only [WP, wp_ret]
  imodintro
  iapply Hk
  iexact H

/-- The copies at offsets 1 to 3 started. -/
theorem part4 (c : Dev nD) (v2 v72 : BitVec 32) {Q} :
    records x K ⊢ iprop(Snd x c 0 -∗ (∀ r, Snd x c 3 -∗ Q r) -∗ WP c (called (k0_part4 (F := F)) c v2 v72) Q) := by
  simp only [called, k0_part4_eq_skeleton]
  unfold k0_part4_skel
  simp only [semSignalWord, semWaitWord, Prog.lift, Prog.bind_op, Prog.bind_ret, Prog.pure_eq_ret]
  iintro #HR HS Hk
  iapply (step_send x K c ⟨0, Nat.le_of_ble_eq_true rfl⟩ ⟨k0_dev16 c, k0_dev16_lt c⟩ (k0_dev16_eq c) (k0_off1_eq c ⟨0, Nat.le_of_ble_eq_true rfl⟩) rfl rfl rfl) $$ HR HS
  iintro HS
  iapply (step_send x K c ⟨1, Nat.le_of_ble_eq_true rfl⟩ ⟨k0_dev17 c, k0_dev17_lt c⟩ (k0_dev17_eq c) (k0_off1_eq c ⟨1, Nat.le_of_ble_eq_true rfl⟩) rfl rfl rfl) $$ HR HS
  iintro HS
  iapply (step_send x K c ⟨2, Nat.le_of_ble_eq_true rfl⟩ ⟨k0_dev18 c, k0_dev18_lt c⟩ (k0_dev18_eq c) (k0_off1_eq c ⟨2, Nat.le_of_ble_eq_true rfl⟩) rfl rfl rfl) $$ HR HS
  iintro HS
  simp only [WP, wp_ret]
  imodintro
  iapply Hk
  iexact HS

/-- The copies at offsets 4 and 5 started. -/
theorem part5 (c : Dev nD) (v2 a : BitVec 32) {Q} :
    records x K ⊢ iprop(Snd x c 3 -∗ (∀ r, Snd x c 5 -∗ Q r) -∗ WP c (called (k0_part5 (F := F)) c v2 a) Q) := by
  simp only [called, k0_part5_eq_skeleton]
  unfold k0_part5_skel
  simp only [semSignalWord, semWaitWord, Prog.lift, Prog.bind_op, Prog.bind_ret, Prog.pure_eq_ret]
  iintro #HR HS Hk
  iapply (step_send x K c ⟨3, Nat.le_of_ble_eq_true rfl⟩ ⟨k0_dev19 c, k0_dev19_lt c⟩ (k0_dev19_eq c) (k0_off1_eq c ⟨3, Nat.le_of_ble_eq_true rfl⟩) rfl rfl rfl) $$ HR HS
  iintro HS
  iapply (step_send x K c ⟨4, Nat.le_of_ble_eq_true rfl⟩ ⟨k0_dev20 c, k0_dev20_lt c⟩ (k0_dev20_eq c) (k0_off1_eq c ⟨4, Nat.le_of_ble_eq_true rfl⟩) rfl rfl rfl) $$ HR HS
  iintro HS
  simp only [WP, wp_ret]
  imodintro
  iapply Hk
  iexact HS

/-- The copies at offsets 6 to 8 started. -/
theorem part6 (c : Dev nD) (v2 : BitVec 32) {Q} :
    records x K ⊢ iprop(Snd x c 5 -∗ (∀ r, Snd x c 8 -∗ Q r) -∗ WP c (called (k0_part6 (F := F)) c v2) Q) := by
  simp only [called, k0_part6_eq_skeleton]
  unfold k0_part6_skel
  simp only [semSignalWord, semWaitWord, Prog.lift, Prog.bind_op, Prog.bind_ret, Prog.pure_eq_ret]
  iintro #HR HS Hk
  iapply (step_send x K c ⟨5, Nat.le_of_ble_eq_true rfl⟩ ⟨k0_dev21 c, k0_dev21_lt c⟩ (k0_dev21_eq c) (k0_off1_eq c ⟨5, Nat.le_of_ble_eq_true rfl⟩) rfl rfl rfl) $$ HR HS
  iintro HS
  iapply (step_send x K c ⟨6, Nat.le_of_ble_eq_true rfl⟩ ⟨k0_dev22 c, k0_dev22_lt c⟩ (k0_dev22_eq c) (k0_off1_eq c ⟨6, Nat.le_of_ble_eq_true rfl⟩) rfl rfl rfl) $$ HR HS
  iintro HS
  iapply (step_send x K c ⟨7, Nat.le_of_ble_eq_true rfl⟩ ⟨k0_dev23 c, k0_dev23_lt c⟩ (k0_dev23_eq c) (k0_off1_eq c ⟨7, Nat.le_of_ble_eq_true rfl⟩) rfl rfl rfl) $$ HR HS
  iintro HS
  simp only [WP, wp_ret]
  imodintro
  iapply Hk
  iexact HS

/-- The copies at offsets 9 to 11 started. -/
theorem part7 (c : Dev nD) (v2 : BitVec 32) {Q} :
    records x K ⊢ iprop(Snd x c 8 -∗ (∀ r, Snd x c 11 -∗ Q r) -∗ WP c (called (k0_part7 (F := F)) c v2) Q) := by
  simp only [called, k0_part7_eq_skeleton]
  unfold k0_part7_skel
  simp only [semSignalWord, semWaitWord, Prog.lift, Prog.bind_op, Prog.bind_ret, Prog.pure_eq_ret]
  iintro #HR HS Hk
  iapply (step_send x K c ⟨8, Nat.le_of_ble_eq_true rfl⟩ ⟨k0_dev24 c, k0_dev24_lt c⟩ (k0_dev24_eq c) (k0_off1_eq c ⟨8, Nat.le_of_ble_eq_true rfl⟩) rfl rfl rfl) $$ HR HS
  iintro HS
  iapply (step_send x K c ⟨9, Nat.le_of_ble_eq_true rfl⟩ ⟨k0_dev25 c, k0_dev25_lt c⟩ (k0_dev25_eq c) (k0_off1_eq c ⟨9, Nat.le_of_ble_eq_true rfl⟩) rfl rfl rfl) $$ HR HS
  iintro HS
  iapply (step_send x K c ⟨10, Nat.le_of_ble_eq_true rfl⟩ ⟨k0_dev26 c, k0_dev26_lt c⟩ (k0_dev26_eq c) (k0_off1_eq c ⟨10, Nat.le_of_ble_eq_true rfl⟩) rfl rfl rfl) $$ HR HS
  iintro HS
  simp only [WP, wp_ret]
  imodintro
  iapply Hk
  iexact HS

/-- The copies at offsets 12 to 14 started. -/
theorem part8 (c : Dev nD) (v2 a : BitVec 32) {Q} :
    records x K ⊢ iprop(Snd x c 11 -∗ (∀ r, Snd x c 14 -∗ Q r) -∗ WP c (called (k0_part8 (F := F)) c v2 a) Q) := by
  simp only [called, k0_part8_eq_skeleton]
  unfold k0_part8_skel
  simp only [semSignalWord, semWaitWord, Prog.lift, Prog.bind_op, Prog.bind_ret, Prog.pure_eq_ret]
  iintro #HR HS Hk
  iapply (step_send x K c ⟨11, Nat.le_of_ble_eq_true rfl⟩ ⟨k0_dev27 c, k0_dev27_lt c⟩ (k0_dev27_eq c) (k0_off1_eq c ⟨11, Nat.le_of_ble_eq_true rfl⟩) rfl rfl rfl) $$ HR HS
  iintro HS
  iapply (step_send x K c ⟨12, Nat.le_of_ble_eq_true rfl⟩ ⟨k0_dev28 c, k0_dev28_lt c⟩ (k0_dev28_eq c) (k0_off1_eq c ⟨12, Nat.le_of_ble_eq_true rfl⟩) rfl rfl rfl) $$ HR HS
  iintro HS
  iapply (step_send x K c ⟨13, Nat.le_of_ble_eq_true rfl⟩ ⟨k0_dev29 c, k0_dev29_lt c⟩ (k0_dev29_eq c) (k0_off1_eq c ⟨13, Nat.le_of_ble_eq_true rfl⟩) rfl rfl rfl) $$ HR HS
  iintro HS
  simp only [WP, wp_ret]
  imodintro
  iapply Hk
  iexact HS

/-- The last copy started, the device's own block put in its place, the first weight copy started. -/
theorem part9 (c : Dev nD) (v2 a : BitVec 32) {Q} :
    records x K ⊢ iprop(Snd x c 14 -∗ xsPts c c.val (x c) -∗ (∃ f, xtPts c 0 f) -∗ Dq w c 0 0 -∗ Free c (slot ⟨0, Nat.le_of_ble_eq_true rfl⟩)
      -∗ (∀ r, (Snd x c 15 ∗ xsPts c c.val (x c) ∗ xtPts c 0 (XT x c) ∗ Dq w c 1 0) -∗ Q r) -∗ WP c (called (k0_part9 (F := F)) c v2 a) Q) := by
  simp only [called, k0_part9_eq_skeleton]
  unfold k0_part9_skel
  simp only [semSignalWord, semWaitWord, Prog.lift, Prog.bind_op, Prog.bind_ret, Prog.pure_eq_ret]
  iintro #HR HS Hs Ht HD HF Hk
  iapply (step_send x K c ⟨14, Nat.le_of_ble_eq_true rfl⟩ ⟨k0_dev30 c, k0_dev30_lt c⟩ (k0_dev30_eq c) (k0_off1_eq c ⟨14, Nat.le_of_ble_eq_true rfl⟩) rfl rfl rfl) $$ HR HS
  iintro HS
  iapply (step_own x c (k0_off2_eq c) rfl (fun v => shapeCast_self v _)) $$ Hs Ht
  iintro ⟨Hs, Ht⟩
  iapply (step_fetch w c ⟨0, Nat.le_of_ble_eq_true rfl⟩ 0 (Nat.le_refl 0) 0 rfl (k0_off3_eq c ⟨0, Nat.le_of_ble_eq_true rfl⟩) rfl rfl) $$ HD HF
  iintro HD
  simp only [WP, wp_ret]
  imodintro
  iapply Hk
  isplitl [HS]; · iexact HS
  isplitl [Hs]; · iexact Hs
  isplitl [Ht]; · iexact Ht
  iexact HD

/-- The copies at offsets 2 to 5 awaited. -/
theorem part18 (c : Dev nD) (v2 : BitVec 32) {Q} :
    records x K ⊢ iprop(Ow c 0 -∗ Rcv x c 1 -∗ (∀ r, (Ow c 0 ∗ Rcv x c 5) -∗ Q r) -∗ WP c (called (k0_part18 (F := F)) v2) Q) := by
  simp only [called, k0_part18_eq_skeleton]
  unfold k0_part18_skel
  simp only [semSignalWord, semWaitWord, Prog.lift, Prog.bind_op, Prog.bind_ret, Prog.pure_eq_ret]
  iintro #HR HO HV Hk
  iapply (step_recv x K c ⟨1, Nat.le_of_ble_eq_true rfl⟩ rfl) $$ HR HO HV
  iintro ⟨HO, HV⟩
  iapply (step_recv x K c ⟨2, Nat.le_of_ble_eq_true rfl⟩ rfl) $$ HR HO HV
  iintro ⟨HO, HV⟩
  iapply (step_recv x K c ⟨3, Nat.le_of_ble_eq_true rfl⟩ rfl) $$ HR HO HV
  iintro ⟨HO, HV⟩
  iapply (step_recv x K c ⟨4, Nat.le_of_ble_eq_true rfl⟩ rfl) $$ HR HO HV
  iintro ⟨HO, HV⟩
  simp only [WP, wp_ret]
  imodintro
  iapply Hk
  isplitl [HO]; · iexact HO
  iexact HV

/-- The device's own copies at offsets 3 to 8 awaited. -/
theorem part27 (c : Dev nD) {Q} :
    records x K ⊢ iprop(Ow c 0 -∗ Swt x c 2 -∗ (∀ r, (Ow c 0 ∗ Swt x c 8) -∗ Q r) -∗ WP c (called (k0_part27 (F := F)) c) Q) := by
  simp only [called, k0_part27_eq_skeleton]
  unfold k0_part27_skel
  simp only [semSignalWord, semWaitWord, Prog.lift, Prog.bind_op, Prog.bind_ret, Prog.pure_eq_ret]
  iintro #HR HO HV Hk
  iapply (step_sent x K c ⟨2, Nat.le_of_ble_eq_true rfl⟩ rfl) $$ HR HO HV
  iintro ⟨HO, HV⟩
  iapply (step_sent x K c ⟨3, Nat.le_of_ble_eq_true rfl⟩ rfl) $$ HR HO HV
  iintro ⟨HO, HV⟩
  iapply (step_sent x K c ⟨4, Nat.le_of_ble_eq_true rfl⟩ rfl) $$ HR HO HV
  iintro ⟨HO, HV⟩
  iapply (step_sent x K c ⟨5, Nat.le_of_ble_eq_true rfl⟩ rfl) $$ HR HO HV
  iintro ⟨HO, HV⟩
  iapply (step_sent x K c ⟨6, Nat.le_of_ble_eq_true rfl⟩ rfl) $$ HR HO HV
  iintro ⟨HO, HV⟩
  iapply (step_sent x K c ⟨7, Nat.le_of_ble_eq_true rfl⟩ rfl) $$ HR HO HV
  iintro ⟨HO, HV⟩
  simp only [WP, wp_ret]
  imodintro
  iapply Hk
  isplitl [HO]; · iexact HO
  iexact HV

/-- The device's own copies at offsets 9 to 13 awaited. -/
theorem part28 (c : Dev nD) {Q} :
    records x K ⊢ iprop(Ow c 0 -∗ Swt x c 8 -∗ (∀ r, (Ow c 0 ∗ Swt x c 13) -∗ Q r) -∗ WP c (called (k0_part28 (F := F)) c) Q) := by
  simp only [called, k0_part28_eq_skeleton]
  unfold k0_part28_skel
  simp only [semSignalWord, semWaitWord, Prog.lift, Prog.bind_op, Prog.bind_ret, Prog.pure_eq_ret]
  iintro #HR HO HV Hk
  iapply (step_sent x K c ⟨8, Nat.le_of_ble_eq_true rfl⟩ rfl) $$ HR HO HV
  iintro ⟨HO, HV⟩
  iapply (step_sent x K c ⟨9, Nat.le_of_ble_eq_true rfl⟩ rfl) $$ HR HO HV
  iintro ⟨HO, HV⟩
  iapply (step_sent x K c ⟨10, Nat.le_of_ble_eq_true rfl⟩ rfl) $$ HR HO HV
  iintro ⟨HO, HV⟩
  iapply (step_sent x K c ⟨11, Nat.le_of_ble_eq_true rfl⟩ rfl) $$ HR HO HV
  iintro ⟨HO, HV⟩
  iapply (step_sent x K c ⟨12, Nat.le_of_ble_eq_true rfl⟩ rfl) $$ HR HO HV
  iintro ⟨HO, HV⟩
  simp only [WP, wp_ret]
  imodintro
  iapply Hk
  isplitl [HO]; · iexact HO
  iexact HV

end Cert.A2A

end
-- ==== Proof.Convert.lean ====
/- The weight copies and their conversion, part by part as the kernel is printed. -/
module

public import proofs.«01_k».proof.Proof.Exchange

@[expose] public section

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Vec F S4096x256 .fp8e4m3) (w : Dev nD → Vec F S4096x2048 .f32) (K : Dev nD × CI → ℕ)

/-- Copies 1 to 3 started, copy 0 awaited and its block read. -/
theorem part10 (c : Dev nD) (v2 : BitVec 32) {Q} :
    Dq w c 1 0 ⊢ iprop(Ow c 0 -∗ Free c (slot ⟨1, Nat.le_of_ble_eq_true rfl⟩) -∗ Free c (slot ⟨2, Nat.le_of_ble_eq_true rfl⟩) -∗ Free c (slot ⟨3, Nat.le_of_ble_eq_true rfl⟩)
      -∗ ((Ow c 0 ∗ Dq w c 4 1 ∗ Cur w c ⟨0, Nat.le_of_ble_eq_true rfl⟩) -∗ Q (wBlk w c (qs ⟨0, Nat.le_of_ble_eq_true rfl⟩))) -∗ WP c (called (k0_part10 (F := F)) c v2) Q) := by
  simp only [called, k0_part10_eq_skeleton]
  unfold k0_part10_skel
  simp only [Prog.lift, Prog.bind_op, Prog.bind_ret, Prog.pure_eq_ret]
  iintro HD HO HF1 HF2 HF3 Hk
  iapply (step_fetch w c ⟨1, Nat.le_of_ble_eq_true rfl⟩ 0 (by decide) 8 rfl (k0_off3_eq c ⟨8, Nat.le_of_ble_eq_true rfl⟩) rfl rfl) $$ HD HF1
  iintro HD
  iapply (step_fetch w c ⟨2, Nat.le_of_ble_eq_true rfl⟩ 0 (by decide) 9 rfl (k0_off3_eq c ⟨9, Nat.le_of_ble_eq_true rfl⟩) rfl rfl) $$ HD HF2
  iintro HD
  iapply (step_fetch w c ⟨3, Nat.le_of_ble_eq_true rfl⟩ 0 (by decide) 10 rfl (k0_off3_eq c ⟨10, Nat.le_of_ble_eq_true rfl⟩) rfl rfl) $$ HD HF3
  iintro HD
  iapply (step_fetched w c ⟨0, Nat.le_of_ble_eq_true rfl⟩ 4 (by decide) rfl) $$ HD HO
  iintro ⟨HO, HD, HC⟩
  iapply (step_load_wt w c ⟨0, Nat.le_of_ble_eq_true rfl⟩ rfl) $$ HC
  iintro HC
  simp only [WP, wp_ret]
  imodintro
  iapply Hk
  isplitl [HO]; · iexact HO
  isplitl [HD]; · iexact HD
  iexact HC

/-- Block 0 stored, copy 4 started, copy 1 awaited and converted. -/
theorem part11 (c : Dev nD) (v2 : BitVec 32) {Q} :
    Dq w c 4 1 ⊢ iprop(Ow c 0 -∗ Cur w c ⟨0, Nat.le_of_ble_eq_true rfl⟩ -∗ Wcs w c 0
      -∗ (∀ r, (Ow c 0 ∗ Dq w c 5 2 ∗ Cur w c ⟨1, Nat.le_of_ble_eq_true rfl⟩ ∗ Wcs w c 2) -∗ Q r)
      -∗ WP c (called (k0_part11 (F := F)) c v2 (wBlk w c (qs ⟨0, Nat.le_of_ble_eq_true rfl⟩))) Q) := by
  simp only [called, k0_part11_eq_skeleton]
  unfold k0_part11_skel
  simp only [Prog.lift, Prog.bind_op, Prog.bind_ret, Prog.pure_eq_ret]
  iintro HD HO HC HW Hk
  iapply (step_load_wc w c ⟨0, Nat.le_of_ble_eq_true rfl⟩ rfl) $$ HW
  iintro %v HW
  iapply (step_store_wc w c ⟨0, Nat.le_of_ble_eq_true rfl⟩ rfl rfl) $$ HW
  iintro HW
  iapply (step_refetch w c ⟨4, Nat.le_of_ble_eq_true rfl⟩ ⟨0, Nat.le_of_ble_eq_true rfl⟩ rfl 1 (by decide) 11 rfl (k0_off3_eq c ⟨11, Nat.le_of_ble_eq_true rfl⟩) rfl rfl) $$ HD HC
  iintro HD
  iapply (step_fetched w c ⟨1, Nat.le_of_ble_eq_true rfl⟩ 5 (by decide) rfl) $$ HD HO
  iintro ⟨HO, HD, HC⟩
  iapply (step_convert w c ⟨1, Nat.le_of_ble_eq_true rfl⟩ rfl rfl (fun _ => rfl)) $$ HC HW
  iintro ⟨HC, HW⟩
  simp only [WP, wp_ret]
  imodintro
  iapply Hk
  isplitl [HO]; · iexact HO
  isplitl [HD]; · iexact HD
  isplitl [HC]; · iexact HC
  iexact HW

/-- Copy 5 started, copy 2 awaited and converted, copy 6 started. -/
theorem part12 (c : Dev nD) (v2 : BitVec 32) {Q} :
    Dq w c 5 2 ⊢ iprop(Ow c 0 -∗ Cur w c ⟨1, Nat.le_of_ble_eq_true rfl⟩ -∗ Wcs w c 2
      -∗ (∀ r, (Ow c 0 ∗ Dq w c 7 3 ∗ Wcs w c 3) -∗ Q r) -∗ WP c (called (k0_part12 (F := F)) c v2) Q) := by
  simp only [called, k0_part12_eq_skeleton]
  unfold k0_part12_skel
  simp only [Prog.lift, Prog.bind_op, Prog.bind_ret, Prog.pure_eq_ret]
  iintro HD HO HC HW Hk
  iapply (step_refetch w c ⟨5, Nat.le_of_ble_eq_true rfl⟩ ⟨1, Nat.le_of_ble_eq_true rfl⟩ rfl 2 (by decide) 12 rfl (k0_off3_eq c ⟨12, Nat.le_of_ble_eq_true rfl⟩) rfl rfl) $$ HD HC
  iintro HD
  iapply (step_fetched w c ⟨2, Nat.le_of_ble_eq_true rfl⟩ 6 (by decide) rfl) $$ HD HO
  iintro ⟨HO, HD, HC⟩
  iapply (step_convert w c ⟨2, Nat.le_of_ble_eq_true rfl⟩ rfl rfl (fun _ => rfl)) $$ HC HW
  iintro ⟨HC, HW⟩
  iapply (step_refetch w c ⟨6, Nat.le_of_ble_eq_true rfl⟩ ⟨2, Nat.le_of_ble_eq_true rfl⟩ rfl 3 (by decide) 13 rfl (k0_off3_eq c ⟨13, Nat.le_of_ble_eq_true rfl⟩) rfl rfl) $$ HD HC
  iintro HD
  simp only [WP, wp_ret]
  imodintro
  iapply Hk
  isplitl [HO]; · iexact HO
  isplitl [HD]; · iexact HD
  iexact HW

/-- Copy 3 awaited and converted, copy 7 started, copy 4 awaited. -/
theorem part13 (c : Dev nD) (v2 a b : BitVec 32) {Q} :
    Dq w c 7 3 ⊢ iprop(Ow c 0 -∗ Wcs w c 3
      -∗ (∀ r, (Ow c 0 ∗ Dq w c 8 5 ∗ Cur w c ⟨4, Nat.le_of_ble_eq_true rfl⟩ ∗ Wcs w c 4) -∗ Q r) -∗ WP c (called (k0_part13 (F := F)) c v2 a b) Q) := by
  simp only [called, k0_part13_eq_skeleton]
  unfold k0_part13_skel
  simp only [Prog.lift, Prog.bind_op, Prog.bind_ret, Prog.pure_eq_ret]
  iintro HD HO HW Hk
  iapply (step_fetched w c ⟨3, Nat.le_of_ble_eq_true rfl⟩ 7 (by decide) rfl) $$ HD HO
  iintro ⟨HO, HD, HC⟩
  iapply (step_convert w c ⟨3, Nat.le_of_ble_eq_true rfl⟩ rfl rfl (fun _ => rfl)) $$ HC HW
  iintro ⟨HC, HW⟩
  iapply (step_refetch w c ⟨7, Nat.le_of_ble_eq_true rfl⟩ ⟨3, Nat.le_of_ble_eq_true rfl⟩ rfl 4 (by decide) 14 rfl (k0_off3_eq c ⟨14, Nat.le_of_ble_eq_true rfl⟩) rfl rfl) $$ HD HC
  iintro HD
  iapply (step_fetched w c ⟨4, Nat.le_of_ble_eq_true rfl⟩ 8 (by decide) rfl) $$ HD HO
  iintro ⟨HO, HD, HC⟩
  simp only [WP, wp_ret]
  imodintro
  iapply Hk
  isplitl [HO]; · iexact HO
  isplitl [HD]; · iexact HD
  isplitl [HC]; · iexact HC
  iexact HW

/-- Block 4 converted, copy 8 started, copy 5 awaited and converted. -/
theorem part14 (c : Dev nD) (v2 : BitVec 32) {Q} :
    Dq w c 8 5 ⊢ iprop(Ow c 0 -∗ Cur w c ⟨4, Nat.le_of_ble_eq_true rfl⟩ -∗ Wcs w c 4
      -∗ (∀ r, (Ow c 0 ∗ Dq w c 9 6 ∗ Cur w c ⟨5, Nat.le_of_ble_eq_true rfl⟩ ∗ Wcs w c 6) -∗ Q r) -∗ WP c (called (k0_part14 (F := F)) c v2) Q) := by
  simp only [called, k0_part14_eq_skeleton]
  unfold k0_part14_skel
  simp only [Prog.lift, Prog.bind_op, Prog.bind_ret, Prog.pure_eq_ret]
  iintro HD HO HC HW Hk
  iapply (step_convert w c ⟨4, Nat.le_of_ble_eq_true rfl⟩ rfl rfl (fun _ => rfl)) $$ HC HW
  iintro ⟨HC, HW⟩
  iapply (step_refetch w c ⟨8, Nat.le_of_ble_eq_true rfl⟩ ⟨4, Nat.le_of_ble_eq_true rfl⟩ rfl 5 (by decide) 15 rfl (k0_off3_eq c ⟨15, Nat.le_of_ble_eq_true rfl⟩) rfl rfl) $$ HD HC
  iintro HD
  iapply (step_fetched w c ⟨5, Nat.le_of_ble_eq_true rfl⟩ 9 (by decide) rfl) $$ HD HO
  iintro ⟨HO, HD, HC⟩
  iapply (step_convert w c ⟨5, Nat.le_of_ble_eq_true rfl⟩ rfl rfl (fun _ => rfl)) $$ HC HW
  iintro ⟨HC, HW⟩
  simp only [WP, wp_ret]
  imodintro
  iapply Hk
  isplitl [HO]; · iexact HO
  isplitl [HD]; · iexact HD
  isplitl [HC]; · iexact HC
  iexact HW

/-- Copy 9 started, copy 6 awaited and converted. -/
theorem part15 (c : Dev nD) (v2 a : BitVec 32) {Q} :
    Dq w c 9 6 ⊢ iprop(Ow c 0 -∗ Cur w c ⟨5, Nat.le_of_ble_eq_true rfl⟩ -∗ Wcs w c 6
      -∗ (∀ r, (Ow c 0 ∗ Dq w c 10 7 ∗ Cur w c ⟨6, Nat.le_of_ble_eq_true rfl⟩ ∗ Wcs w c 7) -∗ Q r) -∗ WP c (called (k0_part15 (F := F)) c v2 a) Q) := by
  simp only [called, k0_part15_eq_skeleton]
  unfold k0_part15_skel
  simp only [Prog.lift, Prog.bind_op, Prog.bind_ret, Prog.pure_eq_ret]
  iintro HD HO HC HW Hk
  iapply (step_refetch w c ⟨9, Nat.le_of_ble_eq_true rfl⟩ ⟨5, Nat.le_of_ble_eq_true rfl⟩ rfl 6 (by decide) 1 rfl (k0_off3_eq c ⟨1, Nat.le_of_ble_eq_true rfl⟩) rfl rfl) $$ HD HC
  iintro HD
  iapply (step_fetched w c ⟨6, Nat.le_of_ble_eq_true rfl⟩ 10 (by decide) rfl) $$ HD HO
  iintro ⟨HO, HD, HC⟩
  iapply (step_convert w c ⟨6, Nat.le_of_ble_eq_true rfl⟩ rfl rfl (fun _ => rfl)) $$ HC HW
  iintro ⟨HC, HW⟩
  simp only [WP, wp_ret]
  imodintro
  iapply Hk
  isplitl [HO]; · iexact HO
  isplitl [HD]; · iexact HD
  isplitl [HC]; · iexact HC
  iexact HW

/-- Copy 10 started, copy 7 awaited and converted, copy 11 started. -/
theorem part16 (c : Dev nD) (v2 : BitVec 32) {Q} :
    Dq w c 10 7 ⊢ iprop(Ow c 0 -∗ Cur w c ⟨6, Nat.le_of_ble_eq_true rfl⟩ -∗ Wcs w c 7
      -∗ (∀ r, (Ow c 0 ∗ Dq w c 12 8 ∗ Wcs w c 8) -∗ Q r) -∗ WP c (called (k0_part16 (F := F)) c v2) Q) := by
  simp only [called, k0_part16_eq_skeleton]
  unfold k0_part16_skel
  simp only [Prog.lift, Prog.bind_op, Prog.bind_ret, Prog.pure_eq_ret]
  iintro HD HO HC HW Hk
  iapply (step_refetch w c ⟨10, Nat.le_of_ble_eq_true rfl⟩ ⟨6, Nat.le_of_ble_eq_true rfl⟩ rfl 7 (by decide) 2 rfl (k0_off3_eq c ⟨2, Nat.le_of_ble_eq_true rfl⟩) rfl rfl) $$ HD HC
  iintro HD
  iapply (step_fetched w c ⟨7, Nat.le_of_ble_eq_true rfl⟩ 11 (by decide) rfl) $$ HD HO
  iintro ⟨HO, HD, HC⟩
  iapply (step_convert w c ⟨7, Nat.le_of_ble_eq_true rfl⟩ rfl rfl (fun _ => rfl)) $$ HC HW
  iintro ⟨HC, HW⟩
  iapply (step_refetch w c ⟨11, Nat.le_of_ble_eq_true rfl⟩ ⟨7, Nat.le_of_ble_eq_true rfl⟩ rfl 8 (by decide) 3 rfl (k0_off3_eq c ⟨3, Nat.le_of_ble_eq_true rfl⟩) rfl rfl) $$ HD HC
  iintro HD
  simp only [WP, wp_ret]
  imodintro
  iapply Hk
  isplitl [HO]; · iexact HO
  isplitl [HD]; · iexact HD
  iexact HW

/-- Copy 8 awaited and converted, copy 12 started; the first copy from another device awaited. -/
theorem part17 (c : Dev nD) (v2 : BitVec 32) {Q} :
    records x K ⊢ iprop(Dq w c 12 8 -∗ Ow c 0 -∗ Wcs w c 8 -∗ Rcv x c 0
      -∗ (∀ r, (Ow c 0 ∗ Dq w c 13 9 ∗ Wcs w c 9 ∗ Rcv x c 1) -∗ Q r) -∗ WP c (called (k0_part17 (F := F)) c v2) Q) := by
  simp only [called, k0_part17_eq_skeleton]
  unfold k0_part17_skel
  simp only [Prog.lift, Prog.bind_op, Prog.bind_ret, Prog.pure_eq_ret]
  iintro #HR HD HO HW HV Hk
  iapply (step_fetched w c ⟨8, Nat.le_of_ble_eq_true rfl⟩ 12 (by decide) rfl) $$ HD HO
  iintro ⟨HO, HD, HC⟩
  iapply (step_convert w c ⟨8, Nat.le_of_ble_eq_true rfl⟩ rfl rfl (fun _ => rfl)) $$ HC HW
  iintro ⟨HC, HW⟩
  iapply (step_refetch w c ⟨12, Nat.le_of_ble_eq_true rfl⟩ ⟨8, Nat.le_of_ble_eq_true rfl⟩ rfl 9 (by decide) 4 rfl (k0_off3_eq c ⟨4, Nat.le_of_ble_eq_true rfl⟩) rfl rfl) $$ HD HC
  iintro HD
  iapply (step_recv x K c ⟨0, Nat.le_of_ble_eq_true rfl⟩ rfl) $$ HR HO HV
  iintro ⟨HO, HV⟩
  simp only [WP, wp_ret]
  imodintro
  iapply Hk
  isplitl [HO]; · iexact HO
  isplitl [HD]; · iexact HD
  isplitl [HW]; · iexact HW
  iexact HV

/-- Copy 9 awaited and converted, copy 13 started, copy 10 awaited. -/
theorem part20 (c : Dev nD) (v2 : BitVec 32) {Q} :
    Dq w c 13 9 ⊢ iprop(Ow c 0 -∗ Wcs w c 9
      -∗ (∀ r, (Ow c 0 ∗ Dq w c 14 11 ∗ Cur w c ⟨10, Nat.le_of_ble_eq_true rfl⟩ ∗ Wcs w c 10) -∗ Q r) -∗ WP c (called (k0_part20 (F := F)) c v2) Q) := by
  simp only [called, k0_part20_eq_skeleton]
  unfold k0_part20_skel
  simp only [Prog.lift, Prog.bind_op, Prog.bind_ret, Prog.pure_eq_ret]
  iintro HD HO HW Hk
  iapply (step_fetched w c ⟨9, Nat.le_of_ble_eq_true rfl⟩ 13 (by decide) rfl) $$ HD HO
  iintro ⟨HO, HD, HC⟩
  iapply (step_convert w c ⟨9, Nat.le_of_ble_eq_true rfl⟩ rfl rfl (fun _ => rfl)) $$ HC HW
  iintro ⟨HC, HW⟩
  iapply (step_refetch w c ⟨13, Nat.le_of_ble_eq_true rfl⟩ ⟨9, Nat.le_of_ble_eq_true rfl⟩ rfl 10 (by decide) 5 rfl (k0_off3_eq c ⟨5, Nat.le_of_ble_eq_true rfl⟩) rfl rfl) $$ HD HC
  iintro HD
  iapply (step_fetched w c ⟨10, Nat.le_of_ble_eq_true rfl⟩ 14 (by decide) rfl) $$ HD HO
  iintro ⟨HO, HD, HC⟩
  simp only [WP, wp_ret]
  imodintro
  iapply Hk
  isplitl [HO]; · iexact HO
  isplitl [HD]; · iexact HD
  isplitl [HC]; · iexact HC
  iexact HW

/-- Block 10 converted, copy 14 started, copy 11 awaited and converted. -/
theorem part21 (c : Dev nD) (v2 : BitVec 32) {Q} :
    Dq w c 14 11 ⊢ iprop(Ow c 0 -∗ Cur w c ⟨10, Nat.le_of_ble_eq_true rfl⟩ -∗ Wcs w c 10
      -∗ (∀ r, (Ow c 0 ∗ Dq w c 15 12 ∗ Cur w c ⟨11, Nat.le_of_ble_eq_true rfl⟩ ∗ Wcs w c 12) -∗ Q r) -∗ WP c (called (k0_part21 (F := F)) c v2) Q) := by
  simp only [called, k0_part21_eq_skeleton]
  unfold k0_part21_skel
  simp only [Prog.lift, Prog.bind_op, Prog.bind_ret, Prog.pure_eq_ret]
  iintro HD HO HC HW Hk
  iapply (step_convert w c ⟨10, Nat.le_of_ble_eq_true rfl⟩ rfl rfl (fun _ => rfl)) $$ HC HW
  iintro ⟨HC, HW⟩
  iapply (step_refetch w c ⟨14, Nat.le_of_ble_eq_true rfl⟩ ⟨10, Nat.le_of_ble_eq_true rfl⟩ rfl 11 (by decide) 6 rfl (k0_off3_eq c ⟨6, Nat.le_of_ble_eq_true rfl⟩) rfl rfl) $$ HD HC
  iintro HD
  iapply (step_fetched w c ⟨11, Nat.le_of_ble_eq_true rfl⟩ 15 (by decide) rfl) $$ HD HO
  iintro ⟨HO, HD, HC⟩
  iapply (step_convert w c ⟨11, Nat.le_of_ble_eq_true rfl⟩ rfl rfl (fun _ => rfl)) $$ HC HW
  iintro ⟨HC, HW⟩
  simp only [WP, wp_ret]
  imodintro
  iapply Hk
  isplitl [HO]; · iexact HO
  isplitl [HD]; · iexact HD
  isplitl [HC]; · iexact HC
  iexact HW

/-- Copy 15 started, copy 12 awaited and converted, copy 13 awaited. -/
theorem part22 (c : Dev nD) (v2 a b : BitVec 32) {Q} :
    Dq w c 15 12 ⊢ iprop(Ow c 0 -∗ Cur w c ⟨11, Nat.le_of_ble_eq_true rfl⟩ -∗ Wcs w c 12
      -∗ (∀ r, (Ow c 0 ∗ Dq w c 16 14 ∗ Cur w c ⟨12, Nat.le_of_ble_eq_true rfl⟩ ∗ Cur w c ⟨13, Nat.le_of_ble_eq_true rfl⟩ ∗ Wcs w c 13) -∗ Q r)
      -∗ WP c (called (k0_part22 (F := F)) c v2 a b) Q) := by
  simp only [called, k0_part22_eq_skeleton]
  unfold k0_part22_skel
  simp only [Prog.lift, Prog.bind_op, Prog.bind_ret, Prog.pure_eq_ret]
  iintro HD HO HC HW Hk
  iapply (step_refetch w c ⟨15, Nat.le_of_ble_eq_true rfl⟩ ⟨11, Nat.le_of_ble_eq_true rfl⟩ rfl 12 (by decide) 7 rfl (k0_off3_eq c ⟨7, Nat.le_of_ble_eq_true rfl⟩) rfl rfl) $$ HD HC
  iintro HD
  iapply (step_fetched w c ⟨12, Nat.le_of_ble_eq_true rfl⟩ 16 (by decide) rfl) $$ HD HO
  iintro ⟨HO, HD, HC⟩
  iapply (step_convert w c ⟨12, Nat.le_of_ble_eq_true rfl⟩ rfl rfl (fun _ => rfl)) $$ HC HW
  iintro ⟨HC, HW⟩
  iapply (step_fetched w c ⟨13, Nat.le_of_ble_eq_true rfl⟩ 16 (by decide) rfl) $$ HD HO
  iintro ⟨HO, HD, HC2⟩
  simp only [WP, wp_ret]
  imodintro
  iapply Hk
  isplitl [HO]; · iexact HO
  isplitl [HD]; · iexact HD
  isplitl [HC]; · iexact HC
  isplitl [HC2]; · iexact HC2
  iexact HW

/-- Block 13 converted, copy 14 awaited and converted, copy 15 awaited and its block read. -/
theorem part23 (c : Dev nD) (v2 : BitVec 32) {Q} :
    Dq w c 16 14 ⊢ iprop(Ow c 0 -∗ Cur w c ⟨13, Nat.le_of_ble_eq_true rfl⟩ -∗ Wcs w c 13
      -∗ ((Ow c 0 ∗ Dq w c 16 16 ∗ Cur w c ⟨13, Nat.le_of_ble_eq_true rfl⟩ ∗ Cur w c ⟨14, Nat.le_of_ble_eq_true rfl⟩ ∗ Cur w c ⟨15, Nat.le_of_ble_eq_true rfl⟩ ∗ Wcs w c 15)
        -∗ Q (wBlk w c (qs ⟨15, Nat.le_of_ble_eq_true rfl⟩)))
      -∗ WP c (called (k0_part23 (F := F)) c v2) Q) := by
  simp only [called, k0_part23_eq_skeleton]
  unfold k0_part23_skel
  simp only [Prog.lift, Prog.bind_op, Prog.bind_ret, Prog.pure_eq_ret]
  iintro HD HO HC HW Hk
  iapply (step_convert w c ⟨13, Nat.le_of_ble_eq_true rfl⟩ rfl rfl (fun _ => rfl)) $$ HC HW
  iintro ⟨HC, HW⟩
  iapply (step_fetched w c ⟨14, Nat.le_of_ble_eq_true rfl⟩ 16 (by decide) rfl) $$ HD HO
  iintro ⟨HO, HD, HC2⟩
  iapply (step_convert w c ⟨14, Nat.le_of_ble_eq_true rfl⟩ rfl rfl (fun _ => rfl)) $$ HC2 HW
  iintro ⟨HC2, HW⟩
  iapply (step_fetched w c ⟨15, Nat.le_of_ble_eq_true rfl⟩ 16 (by decide) rfl) $$ HD HO
  iintro ⟨HO, HD, HC3⟩
  iapply (step_load_wt w c ⟨15, Nat.le_of_ble_eq_true rfl⟩ rfl) $$ HC3
  iintro HC3
  simp only [WP, wp_ret]
  imodintro
  iapply Hk
  isplitl [HO]; · iexact HO
  isplitl [HD]; · iexact HD
  isplitl [HC]; · iexact HC
  isplitl [HC2]; · iexact HC2
  isplitl [HC3]; · iexact HC3
  iexact HW

/-- Block 15 stored; the copies at offsets 9 to 11 awaited. -/
theorem part24 (c : Dev nD) (v2 : BitVec 32) {Q} :
    records x K ⊢ iprop(Ow c 0 -∗ Wcs w c 15 -∗ Rcv x c 8
      -∗ (∀ r, (Ow c 0 ∗ Wcs w c 16 ∗ Rcv x c 11) -∗ Q r) -∗ WP c (called (k0_part24 (F := F)) v2 (wBlk w c (qs ⟨15, Nat.le_of_ble_eq_true rfl⟩))) Q) := by
  simp only [called, k0_part24_eq_skeleton]
  unfold k0_part24_skel
  simp only [Prog.lift, Prog.bind_op, Prog.bind_ret, Prog.pure_eq_ret]
  iintro #HR HO HW HV Hk
  iapply (step_load_wc w c ⟨15, Nat.le_of_ble_eq_true rfl⟩ rfl) $$ HW
  iintro %v HW
  iapply (step_store_wc w c ⟨15, Nat.le_of_ble_eq_true rfl⟩ rfl rfl) $$ HW
  iintro HW
  iapply (step_recv x K c ⟨8, Nat.le_of_ble_eq_true rfl⟩ rfl) $$ HR HO HV
  iintro ⟨HO, HV⟩
  iapply (step_recv x K c ⟨9, Nat.le_of_ble_eq_true rfl⟩ rfl) $$ HR HO HV
  iintro ⟨HO, HV⟩
  iapply (step_recv x K c ⟨10, Nat.le_of_ble_eq_true rfl⟩ rfl) $$ HR HO HV
  iintro ⟨HO, HV⟩
  simp only [WP, wp_ret]
  imodintro
  iapply Hk
  isplitl [HO]; · iexact HO
  isplitl [HW]; · iexact HW
  iexact HV

end Cert.A2A

end
-- ==== Proof.Product.lean ====
/- The loads of the products, part by part, and what the kernel leaves in the result. -/
module

public import proofs.«01_k».proof.Proof.Exchange

@[expose] public section

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Vec F S4096x256 .fp8e4m3) (w : Dev nD → Vec F S4096x2048 .f32) (K : Dev nD × CI → ℕ)

variable (sx sw : Dev nD → Vec F S1 .f32)

/-! ## What the loads cover -/

/-- Column blocks from `a ≥ 1` on are among those that have arrived once `16 - a` copies have been awaited. -/
theorem xt_covered {a b n : ℕ} (ha : 1 ≤ a) (hn : 16 - a ≤ n) (hb : a + b ≤ 16) (inb : ∀ d, (![0, 256 * a] : Fin 2 → ℕ) d + (![256, 256 * b] : Fin 2 → ℕ) d ≤ S256x4096.size d) :
    (Rect.unit (s := S256x4096) ![0, 256 * a] ![256, 256 * b] inb).set ⊆ (hd 15 n).biUnion fun i => xtCol (15 - i.val) := by
  intro y hy
  have h := Rect.mem_set_unit.mp hy 1
  simp at h
  refine Finset.mem_biUnion.mpr ⟨⟨15 - (y 1).val / 256, by omega⟩, ?_, ?_⟩
  · rw [mem_hd]; show 15 - (y 1).val / 256 < n; omega
  · rw [mem_xtCol]; show (y 1).val / 256 = 15 - (15 - (y 1).val / 256); omega

/-- Row blocks all of whose conversions are among the first `n` are converted by then. -/
theorem wc_covered {a b n : ℕ} (hb : a + b ≤ 16) (hq : ∀ j : Fin 16, a ≤ j.val → j.val < a + b → (qEquiv.symm j).val < n)
    (inb : ∀ d, (![256 * a, 0] : Fin 2 → ℕ) d + (![256 * b, 2048] : Fin 2 → ℕ) d ≤ S4096x2048.size d) :
    (Rect.unit (s := S4096x2048) ![256 * a, 0] ![256 * b, 2048] inb).set ⊆ (hd 16 n).biUnion fun i => wRow (qs i) := by
  intro y hy
  have h := Rect.mem_set_unit.mp hy 0
  simp at h
  refine Finset.mem_biUnion.mpr ⟨qEquiv.symm ⟨(y 0).val / 256, by omega⟩, ?_, ?_⟩
  · rw [mem_hd]; exact hq _ (by show a ≤ (y 0).val / 256; omega) (by show (y 0).val / 256 < a + b; omega)
  · rw [mem_wRow]; exact (congrArg Fin.val (qEquiv.apply_symm_apply ⟨(y 0).val / 256, by omega⟩)).symm

/-- A load of the device's own column block. -/
theorem step_load_own {α : Type} {Q : α → sProp 𝕄} (c : Dev nD) {inb : ∀ a, (![0, 0] : Fin 2 → ℕ) a + S256x256.size a ≤ S256x4096.size a}
    {hl : xtM.view.LoadsAt (Rect.unit (s := S256x4096) ![0, 0] S256x256.size inb).toLoadRect}
    {k : Vec F S256x256 .fp8e4m3 → Prog (TpuEff nD τ sig (Elt F) Λ₀ .tc) α} :
    xtPts c 0 (XT x c) ⊢ iprop((xtPts c 0 (XT x c) -∗ WP c (k (xtM.view.readAt (Elt F) (Rect.unit (s := S256x4096) ![0, 0] S256x256.size inb).toLoadRect (XT x c))) Q)
      -∗ WP c (.op (.load xtM (Rect.unit (s := S256x4096) ![0, 0] S256x256.size inb).toLoadRect hl) k) Q) := by
  unfold xtPts
  iintro H Hk
  iapply (wp_load 𝒱₀ (c : Thread nD τ) none Set.univ (m := xtM) (r := (Rect.unit (s := S256x4096) ![0, 0] S256x256.size inb).toLoadRect)
    (S := xtCol 0) ?_) $$ H
  · show xtM.view.setOn (Rect.unit (s := S256x4096) ![0, 0] S256x256.size inb).set ⊆ _
    rw [cols_set (p := 0) rfl inb]
    exact whole_setOn _
  iintro H
  iapply Hk
  iexact H

/-! ## What the kernel leaves -/

/-- The columns and rows the three products read. -/
def xtHi (c : Dev nD) : Vec F S256x2048 .fp8e4m3 :=
  xtM.view.readAt (Elt F) (Rect.unit (s := S256x4096) ![0, 2048] S256x2048.size inb_S256x4096_S256x2048_0_2048).toLoadRect (XT x c)
def xtOwn (c : Dev nD) : Vec F S256x256 .fp8e4m3 :=
  xtM.view.readAt (Elt F) (Rect.unit (s := S256x4096) ![0, 0] S256x256.size inb_S256x4096_S256x256_0_0).toLoadRect (XT x c)
def xtLo (c : Dev nD) : Vec F S256x1792 .fp8e4m3 :=
  xtM.view.readAt (Elt F) (Rect.unit (s := S256x4096) ![0, 256] S256x1792.size inb_S256x4096_S256x1792_0_256).toLoadRect (XT x c)
def wcHi (c : Dev nD) : Vec F S2048x2048 .fp8e4m3 :=
  wcM.view.readAt (Elt F) (Rect.unit (s := S4096x2048) ![2048, 0] S2048x2048.size inb_S4096x2048_S2048x2048_2048_0).toLoadRect (WC w c)
def wcOwn (c : Dev nD) : Vec F S256x2048 .fp8e4m3 :=
  wcM.view.readAt (Elt F) (Rect.unit (s := S4096x2048) ![0, 0] S256x2048.size inb_S4096x2048_S256x2048_0_0).toLoadRect (WC w c)
def wcLo (c : Dev nD) : Vec F S1792x2048 .fp8e4m3 :=
  wcM.view.readAt (Elt F) (Rect.unit (s := S4096x2048) ![256, 0] S1792x2048.size inb_S4096x2048_S1792x2048_256_0).toLoadRect (WC w c)

/-- The first two products. -/
def ACC (c : Dev nD) : Vec F S256x2048 .f32 := k0_pay12 (xtHi x c) (wcHi w c) (xtOwn x c) (wcOwn w c)
/-- The one word of a scale. -/
def word (s : Vec F S1 .f32) : Elt F .f32 := s (Shape.Idx.first (s := S1) (by decide))
/-- The result. -/
def OUT (c : Dev nD) : Vec F S256x2048 .f32 := k0_pay21 (k0_pay20 (ACC x w c)) (xtLo x c) (wcLo w c) (word (sx c)) (word (sw c))

/-! ## The parts -/

/-- The copies at offsets 6 to 8 awaited; the first two products into the result. -/
theorem part19 (c : Dev nD) (v2 : BitVec 32) {Q} :
    records x K ⊢ iprop(Ow c 0 -∗ Rcv x c 5 -∗ Wcs w c 9 -∗ xtPts c 0 (XT x c) -∗ (∃ f, full c cc0_stg3_0 f)
      -∗ (∀ r, (Ow c 0 ∗ Rcv x c 8 ∗ Wcs w c 9 ∗ xtPts c 0 (XT x c) ∗ full c cc0_stg3_0 (ACC x w c)) -∗ Q r)
      -∗ WP c (called (k0_part19 (F := F)) v2) Q) := by
  simp only [called, k0_part19_eq_skeleton]
  unfold k0_part19_skel
  simp only [Prog.lift, Prog.bind_op, Prog.bind_ret, Prog.pure_eq_ret]
  iintro #HR HO HV HW Ht ⟨%f, Ho⟩ Hk
  iapply (step_recv x K c ⟨5, Nat.le_of_ble_eq_true rfl⟩ rfl) $$ HR HO HV
  iintro ⟨HO, HV⟩
  iapply (step_recv x K c ⟨6, Nat.le_of_ble_eq_true rfl⟩ rfl) $$ HR HO HV
  iintro ⟨HO, HV⟩
  iapply (step_recv x K c ⟨7, Nat.le_of_ble_eq_true rfl⟩ rfl) $$ HR HO HV
  iintro ⟨HO, HV⟩
  iapply (step_load_xt x c 8 (xt_covered (a := 8) (b := 8) (Nat.le_of_ble_eq_true rfl) (Nat.le_refl 8) (Nat.le_refl 16) _)) $$ HV
  iintro HV
  iapply (step_load_wcs w c 9 (wc_covered (a := 8) (b := 8) (Nat.le_refl 16) (by decide) _)) $$ HW
  iintro HW
  iapply (step_load_own x c) $$ Ht
  iintro Ht
  iapply (step_load_wcs w c 9 (wc_covered (a := 0) (b := 1) (Nat.le_of_ble_eq_true rfl) (by decide) _)) $$ HW
  iintro HW
  iapply (step_load_all (m := oM) c (Memref.readAt_unit_zero (Elt F) cc0_stg3_0 hz _ f)) $$ Ho
  iintro Ho
  iapply (step_store_out c f) $$ Ho
  iintro Ho
  simp only [WP, wp_ret]
  imodintro
  iapply Hk
  isplitl [HO]; · iexact HO
  isplitl [HV]; · iexact HV
  isplitl [HW]; · iexact HW
  isplitl [Ht]; · iexact Ht
  iexact Ho

/-- The load of the third product's columns. -/
theorem step_load_lo {α : Type} {Q : α → sProp 𝕄} (c : Dev nD)
    {hl : xtM.view.LoadsAt (Rect.unit (s := S256x4096) ![0, 256] S256x1792.size inb_S256x4096_S256x1792_0_256).toLoadRect}
    {k : Vec F S256x1792 .fp8e4m3 → Prog (TpuEff nD τ sig (Elt F) Λ₀ .tc) α} :
    Rcv x c 15 ⊢ iprop((Rcv x c 15 -∗ WP c (k (xtLo x c)) Q)
      -∗ WP c (.op (.load xtM (Rect.unit (s := S256x4096) ![0, 256] S256x1792.size inb_S256x4096_S256x1792_0_256).toLoadRect hl) k) Q) :=
  step_load_xt x c 15 (xt_covered (a := 1) (b := 7) (Nat.le_refl 1) (Nat.le_refl 15) (Nat.le_of_ble_eq_true rfl) _)

/-- The last four copies awaited; the accumulator and the columns of the third product read. -/
theorem part25 (c : Dev nD) (v2 : BitVec 32) {Q} :
    records x K ⊢ iprop(Ow c 0 -∗ Rcv x c 11 -∗ full c cc0_stg3_0 (ACC x w c)
      -∗ ((Ow c 0 ∗ Rcv x c 15 ∗ full c cc0_stg3_0 (ACC x w c)) -∗ Q ⟨k0_pay20 (ACC x w c), xtLo x c⟩)
      -∗ WP c (called (k0_part25 (F := F)) v2) Q) := by
  simp only [called, k0_part25_eq_skeleton]
  unfold k0_part25_skel
  simp only [Prog.lift, Prog.bind_op, Prog.bind_ret, Prog.pure_eq_ret]
  iintro #HR HO HV Ho Hk
  iapply (step_recv x K c ⟨11, Nat.le_of_ble_eq_true rfl⟩ rfl) $$ HR HO HV
  iintro ⟨HO, HV⟩
  iapply (step_recv x K c ⟨12, Nat.le_of_ble_eq_true rfl⟩ rfl) $$ HR HO HV
  iintro ⟨HO, HV⟩
  iapply (step_recv x K c ⟨13, Nat.le_of_ble_eq_true rfl⟩ rfl) $$ HR HO HV
  iintro ⟨HO, HV⟩
  iapply (step_recv x K c ⟨14, Nat.le_of_ble_eq_true rfl⟩ rfl) $$ HR HO HV
  iintro ⟨HO, HV⟩
  iapply (step_load_all (m := oM) c (Memref.readAt_unit_zero (Elt F) cc0_stg3_0 hz _ (ACC x w c))) $$ Ho
  iintro Ho
  iapply (step_load_lo x c) $$ HV
  iintro HV
  simp only [WP, wp_ret]
  imodintro
  iapply Hk
  isplitl [HO]; · iexact HO
  isplitl [HV]; · iexact HV
  iexact Ho

/-- The third product, the scaling and the activation; the device's own copies at offsets 1 and 2 awaited. -/
theorem part26 (c : Dev nD) {Q} :
    records x K ⊢ iprop(Ow c 0 -∗ Wcs w c 16 -∗ full c cc0_stg1_0 (sx c) -∗ full c cc0_stg2_0 (sw c) -∗ full c cc0_stg3_0 (ACC x w c) -∗ Swt x c 0
      -∗ (∀ r, (Ow c 0 ∗ Wcs w c 16 ∗ full c cc0_stg1_0 (sx c) ∗ full c cc0_stg2_0 (sw c) ∗ full c cc0_stg3_0 (OUT x w sx sw c) ∗ Swt x c 2) -∗ Q r)
      -∗ WP c (called (k0_part26 (F := F)) c (k0_pay20 (ACC x w c)) (xtLo x c)) Q) := by
  simp only [called, k0_part26_eq_skeleton]
  unfold k0_part26_skel
  simp only [smemLoad, smemLoadElt, Prog.lift, Prog.bind_op, Prog.bind_ret, Prog.pure_eq_ret]
  iintro #HR HO HW Hsx Hsw Ho HV Hk
  iapply (step_load_wcs w c 16 (wc_covered (a := 1) (b := 7) (Nat.le_of_ble_eq_true rfl) (by decide) _)) $$ HW
  iintro HW
  iapply (step_load_all (m := sxM) c (Memref.readAt_unit_zero (Elt F) cc0_stg1_0 hz1 _ (sx c))) $$ Hsx
  iintro Hsx
  iapply (step_load_all (m := swM) c (Memref.readAt_unit_zero (Elt F) cc0_stg2_0 hz1 _ (sw c))) $$ Hsw
  iintro Hsw
  iapply (step_load_all (m := oM) c (Memref.readAt_unit_zero (Elt F) cc0_stg3_0 hz _ (ACC x w c))) $$ Ho
  iintro Ho
  iapply (step_store_out c (ACC x w c)) $$ Ho
  iintro Ho
  iapply (step_sent x K c ⟨0, Nat.le_of_ble_eq_true rfl⟩ rfl) $$ HR HO HV
  iintro ⟨HO, HV⟩
  iapply (step_sent x K c ⟨1, Nat.le_of_ble_eq_true rfl⟩ rfl) $$ HR HO HV
  iintro ⟨HO, HV⟩
  simp only [WP, wp_ret]
  imodintro
  iapply Hk
  isplitl [HO]; · iexact HO
  isplitl [HW]; · iexact HW
  isplitl [Hsx]; · iexact Hsx
  isplitl [Hsw]; · iexact Hsw
  isplitl [Ho]; · iexact Ho
  iexact HV

end Cert.A2A

end
-- ==== Proof.Split.lean ====
/- The buffers cut into the windows of the exchange and put together again. -/
module

public import proofs.«01_k».proof.Proof.Product
public import Idealize.ShloMosaic.Lib.SparseCore.Stream

@[expose] public section

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Vec F S4096x256 .fp8e4m3) (w : Dev nD → Vec F S4096x2048 .f32) (K : Dev nD × CI → ℕ)

/-! ## A buffer and its windows -/

omit [FloatOps F] in
/-- A buffer held whole is its windows', when they are disjoint and leave nothing out. -/
theorem full_windows {N : ℕ} {ℓ : Loc nD τ sig} (W : Fin N → Finset (Idx ℓ)) (hd : ∀ i j, i ≠ j → Disjoint (W i) (W j)) (hc : ∀ y, ∃ i, y ∈ W i)
    (f : Buf (Elt F) ℓ) : (ℓ ↦{fullShare} f : sProp 𝕄) = bigSep Finset.univ fun i => ℓ ↦[W i]{fullShare} f := by
  rw [← pointsTo_biUnion Finset.univ W fun i _ j _ => hd i j]
  have : Finset.univ.biUnion W = Finset.univ :=
    Finset.eq_univ_iff_forall.mpr fun y => by obtain ⟨i, hi⟩ := hc y; exact Finset.mem_biUnion.mpr ⟨i, Finset.mem_univ i, hi⟩
  rw [this]

omit [FloatOps F] in
/-- The same with other contents in every window: some contents of the whole. -/
theorem windows_full {N : ℕ} {ℓ : Loc nD τ sig} (W : Fin N → Finset (Idx ℓ)) (hd : ∀ i j, i ≠ j → Disjoint (W i) (W j)) (hc : ∀ y, ∃ i, y ∈ W i)
    (fs : Fin N → Buf (Elt F) ℓ) (f₀ : Buf (Elt F) ℓ) :
    (bigSep Finset.univ fun i => ℓ ↦[W i]{fullShare} fs i) ⊢ iprop(∃ f, ℓ ↦{fullShare} f : sProp 𝕄) := by
  refine (pointsTo_biUnion_join Finset.univ W fs f₀ fun i _ j _ => hd i j).trans ?_
  have : Finset.univ.biUnion W = Finset.univ :=
    Finset.eq_univ_iff_forall.mpr fun y => by obtain ⟨i, hi⟩ := hc y; exact Finset.mem_biUnion.mpr ⟨i, Finset.mem_univ i, hi⟩
  rw [this]
  iintro ⟨%g, -, H⟩
  iexists g
  iexact H

/-- Windows told apart by a key: disjoint when their keys are, everything when every key is some window's. -/
theorem keyed_disjoint {N : ℕ} {I : Type} [Fintype I] [DecidableEq I] (κ : I → ℕ) (g : Fin N → ℕ) (W : Fin N → Finset I) (hW : ∀ i y, y ∈ W i ↔ κ y = g i)
    (hg : ∀ i j, g i = g j → i = j) (i j : Fin N) (hij : i ≠ j) : Disjoint (W i) (W j) :=
  Finset.disjoint_left.mpr fun y hy hy' => hij (hg i j (((hW i y).mp hy).symm.trans ((hW j y).mp hy')))

/-- Every device is some number of places below sixteen after `c`. -/
theorem up_reach (c : Dev nD) {p : ℕ} (hp : p < 16) : ∃ k : Fin 16, (up c k.val).val = p := by
  have := dev_lt c
  exact ⟨⟨(p + 16 - c.val) % 16, Nat.mod_lt _ (by decide)⟩, by rw [up_val]; show (c.val + (p + 16 - c.val) % 16) % 16 = p; omega⟩

omit [FloatOps F] in
/-- The local activations: the own row block and the fifteen others' . -/
theorem xs_split (c : Dev nD) (f : Vec F S4096x256 .fp8e4m3) :
    full c cc0_scratch0 f = iprop(xsPts c c.val f ∗ bigSep Finset.univ fun i : Fin 15 => xsPts c (up c (i.val + 1)).val f) := by
  have h := full_windows (F := F) (ℓ := (c : Thread nD τ).loc cc0_scratch0) (fun k : Fin 16 => xsRow (up c k.val).val)
    (keyed_disjoint (fun y : S4096x256.Idx => (y 0).val / 256) (fun k : Fin 16 => (up c k.val).val) _ (fun _ _ => mem_xsRow)
      fun i j h => Fin.ext (up_inj c i.isLt j.isLt (Fin.ext h)))
    (fun y => by
      have hy : ((y : S4096x256.Idx) 0).val < 4096 := ((y : S4096x256.Idx) 0).isLt
      obtain ⟨k, hk⟩ := up_reach c (p := ((y : S4096x256.Idx) 0).val / 256) (by omega)
      exact ⟨k, mem_xsRow.mpr hk.symm⟩) f
  rw [bigSep_univ_succ] at h
  refine h.trans ?_
  show iprop(xsPts c (up c 0).val f ∗ bigSep Finset.univ fun i : Fin 15 => xsPts c (up c i.succ.val).val f) = _
  rw [up_zero]
  rfl

omit [FloatOps F] in
/-- The exchanged activations: the own column block and the fifteen that arrive. -/
theorem xt_split (c : Dev nD) (f : Vec F S256x4096 .fp8e4m3) :
    full c cc0_scratch1 f = iprop(xtPts c 0 f ∗ bigSep Finset.univ fun i : Fin 15 => xtPts c (i.val + 1) f) := by
  have h := full_windows (F := F) (ℓ := (c : Thread nD τ).loc cc0_scratch1) (fun k : Fin 16 => xtCol k.val)
    (keyed_disjoint (fun y : S256x4096.Idx => (y 1).val / 256) (fun k : Fin 16 => k.val) _ (fun _ _ => mem_xtCol) fun i j h => Fin.ext h)
    (fun y => by
      have hy : ((y : S256x4096.Idx) 1).val < 4096 := ((y : S256x4096.Idx) 1).isLt
      exact ⟨⟨((y : S256x4096.Idx) 1).val / 256, by omega⟩, mem_xtCol.mpr rfl⟩) f
  rw [bigSep_univ_succ] at h
  exact h

/-- Every row block of 256 is the one some weight copy converts into. -/
theorem qs_reach {p : ℕ} (hp : p < 16) : ∃ i : Fin 16, qs i = p :=
  ⟨qEquiv.symm ⟨p, hp⟩, congrArg Fin.val (qEquiv.apply_symm_apply ⟨p, hp⟩)⟩
theorem qs_inj {i j : Fin 16} (h : qs i = qs j) : i = j := qEquiv.injective (Fin.ext h)

omit [FloatOps F] in
/-- The converted weights, in the order the blocks are converted. -/
theorem wc_split (c : Dev nD) (f : Vec F S4096x2048 .fp8e4m3) : full c cc0_scratch2 f = bigSep Finset.univ fun i : Fin 16 => wcPts c (qs i) f :=
  full_windows (F := F) (ℓ := (c : Thread nD τ).loc cc0_scratch2) (fun i : Fin 16 => wRow (qs i))
    (keyed_disjoint (fun y : S4096x2048.Idx => (y 0).val / 256) qs _ (fun _ _ => mem_wRow) fun i j h => qs_inj h)
    (fun y => by
      have hy : ((y : S4096x2048.Idx) 0).val < 4096 := ((y : S4096x2048.Idx) 0).isLt
      obtain ⟨i, hi⟩ := qs_reach (p := ((y : S4096x2048.Idx) 0).val / 256) (by omega)
      exact ⟨i, mem_wRow.mpr hi.symm⟩) f

omit [FloatOps F] in
/-- The weights, in the order the blocks are fetched. -/
theorem w_split (c : Dev nD) (f : Vec F S4096x2048 .f32) : full c main_arg1 f = bigSep Finset.univ fun i : Fin 16 => wPts c (up c (qs i)).val f :=
  full_windows (F := F) (ℓ := (c : Thread nD τ).loc main_arg1) (fun i : Fin 16 => wRow (up c (qs i)).val)
    (keyed_disjoint (fun y : S4096x2048.Idx => (y 0).val / 256) (fun i : Fin 16 => (up c (qs i)).val) _ (fun _ _ => mem_wRow)
      fun i j h => qs_inj (up_inj c (qs_lt i) (qs_lt j) (Fin.ext h)))
    (fun y => by
      have hy : ((y : S4096x2048.Idx) 0).val < 4096 := ((y : S4096x2048.Idx) 0).isLt
      obtain ⟨k, hk⟩ := up_reach c (p := ((y : S4096x2048.Idx) 0).val / 256) (by omega)
      obtain ⟨i, hi⟩ := qs_reach k.isLt
      exact ⟨i, mem_wRow.mpr (by rw [hi, hk])⟩) f

theorem wt_disjoint (i j : Fin 4) (h : i ≠ j) : Disjoint (wtSlot i.val) (wtSlot j.val) :=
  keyed_disjoint (fun y : S4x256x2048.Idx => (y 0).val) (fun k : Fin 4 => k.val) (fun k => wtSlot k.val) (fun _ _ => mem_wtSlot) (fun i j h => Fin.ext h) i j h
theorem wt_reach (y : S4x256x2048.Idx) : ∃ i : Fin 4, y ∈ wtSlot i.val := ⟨y 0, mem_wtSlot.mpr rfl⟩

omit [FloatOps F] in
/-- The weights' staging buffer and its four slots. -/
theorem wt_split (c : Dev nD) (f : Vec F S4x256x2048 .f32) : full c cc0_scratch3 f = bigSep Finset.univ fun j : Fin 4 => wtPts c j.val f :=
  full_windows (F := F) (ℓ := (c : Thread nD τ).loc cc0_scratch3) (fun j : Fin 4 => wtSlot j.val) wt_disjoint wt_reach f
theorem wt_join (c : Dev nD) : (bigSep Finset.univ fun j : Fin 4 => iprop(∃ f, wtPts c j.val f)) ⊢ iprop(∃ f, full (F := F) c cc0_scratch3 f : sProp 𝕄) := by
  haveI : Nonempty (Vec F S4x256x2048 .f32) := ⟨fun _ => FloatOps.ofBits .f32 0⟩
  refine (BI.bigSep_exists_pi Finset.univ fun (j : Fin 4) (f : Vec F S4x256x2048 .f32) => wtPts c j.val f).trans ?_
  iintro ⟨%fs, H⟩
  iapply (windows_full (F := F) (ℓ := (c : Thread nD τ).loc cc0_scratch3) (fun j : Fin 4 => wtSlot j.val) wt_disjoint wt_reach fs (fs 0))
  iexact H

/-! ## The states a run starts in and ends in -/

variable (x : Dev nD → Vec F S4096x256 .fp8e4m3) (w : Dev nD → Vec F S4096x2048 .f32)

/-- Nothing sent: what is owed and, of each signal, its duty's token and the column block it will hand over. -/
theorem Sig_start (c : Dev nD) :
    Sig (F := F) c 0 = iprop(Ow c (OB c 0) ∗ (bigSep Finset.univ fun i : Fin 15 => dutyTok ER (barCell (up c (i.val + 1))) 0 (rv i))
      ∗ bigSep Finset.univ fun i : Fin 15 => iprop(∃ f, xtPts c (i.val + 1) f)) := by
  unfold Sig; rw [tl_zero, bigSep_sep']
/-- The barrier passed, no copy started. -/
theorem Snd_start (c : Dev nD) :
    Snd x c 0 = iprop(Ow c (OR c 0) ∗ ((bigSep Finset.univ fun i => barPay c i) ∗ (bigSep Finset.univ fun i : Fin 15 => dutyTok ER (sendCell c i) 0 0)
      ∗ (bigSep Finset.univ fun i : Fin 15 => dutyTok ER (recvCell (up c (i.val + 1)) i) 0 0) ∗ bigSep Finset.univ fun i => sendPay x c i) ∗ emp) := by
  unfold Snd sendIn; rw [tl_zero, hd_zero, bigSep_empty, bigSep_sep', bigSep_sep', bigSep_sep']; rfl
/-- Every copy started. -/
theorem Snd_end (c : Dev nD) : Snd x c 15 = iprop(Ow c 0 ∗ emp ∗ bigSep Finset.univ fun i : Fin 15 => cred (tallyAt (sendCell c i) () NX)) := by
  unfold Snd; rw [tl_self, hd_self, bigSep_empty, OR_15]; rfl
theorem Rcv_start (c : Dev nD) :
    Rcv x c 0 = iprop(((bigSep Finset.univ fun i : Fin 15 => cred (tallyAt (recvCell c i) () NX)) ∗ bigSep Finset.univ fun i : Fin 15 => atPos ER (recvCell c i) 0 ∅ 0) ∗ emp) := by
  unfold Rcv; rw [tl_zero, hd_zero, bigSep_empty, bigSep_sep']; rfl
theorem Rcv_end (c : Dev nD) :
    Rcv x c 15 = iprop(emp ∗ (bigSep Finset.univ fun i : Fin 15 => atPos ER (recvCell c i) 1 ∅ 0) ∗ bigSep Finset.univ fun i => recvPay x c i) := by
  unfold Rcv; rw [tl_self, hd_self, bigSep_empty, bigSep_sep']; rfl
theorem Swt_start (c : Dev nD) :
    Swt x c 0 = iprop(((bigSep Finset.univ fun i : Fin 15 => cred (tallyAt (sendCell c i) () NX)) ∗ bigSep Finset.univ fun i : Fin 15 => atPos ER (sendCell c i) 0 ∅ 0) ∗ emp) := by
  unfold Swt; rw [tl_zero, hd_zero, bigSep_empty, bigSep_sep']; rfl
theorem Swt_end (c : Dev nD) :
    Swt x c 15 = iprop(emp ∗ (bigSep Finset.univ fun i : Fin 15 => atPos ER (sendCell c i) 1 ∅ 0) ∗ bigSep Finset.univ fun i => sendPay x c i) := by
  unfold Swt; rw [tl_self, hd_self, bigSep_empty, bigSep_sep']; rfl
theorem Dq_start (c : Dev nD) : Dq w c 0 0 = iprop(full c main_arg1 (w c) ∗ emp ∗ emp) := by
  unfold Dq; rw [tl_zero, hd_zero, Finset.inter_empty, bigSep_empty, bigSep_empty, ← w_split]; rfl
theorem Dq_end (c : Dev nD) : Dq w c 16 16 = iprop(emp ∗ emp ∗ full c main_arg1 (w c)) := by
  unfold Dq; rw [tl_self, hd_self, Finset.empty_inter, bigSep_empty, bigSep_empty, ← w_split]; rfl
theorem Wcs_start (c : Dev nD) : Wcs w c 0 = iprop(emp ∗ bigSep Finset.univ fun i : Fin 16 => iprop(∃ f, wcPts c (qs i) f)) := by
  unfold Wcs; rw [tl_zero, hd_zero, bigSep_empty]; rfl
theorem Wcs_end (c : Dev nD) : Wcs w c 16 = iprop(full c cc0_scratch2 (WC w c) ∗ emp) := by
  unfold Wcs; rw [tl_self, hd_self, bigSep_empty, ← wc_split]; rfl

/-- The column blocks that arrived and the own one are the exchanged activations. -/
theorem xt_whole (c : Dev nD) : full c cc0_scratch1 (XT x c) = iprop(xtPts c 0 (XT x c) ∗ bigSep Finset.univ fun i => recvPay x c i) := by
  rw [xt_split, bigSep_univ_equiv rvEquiv]
  refine congrArg (fun P => iprop(xtPts c 0 (XT x c) ∗ P)) (bigSep_congr fun i _ => ?_)
  show xtPts c ((rv i).val + 1) (XT x c) = recvPay x c i
  unfold recvPay
  rw [show (rv i).val + 1 = 15 - i.val by have := i.isLt; rw [rv_val]; omega]
/-- The row blocks the copies read and the own one are the local activations. -/
theorem xs_whole (c : Dev nD) : full c cc0_scratch0 (x c) = iprop(xsPts c c.val (x c) ∗ bigSep Finset.univ fun i => sendPay x c i) := by
  rw [xs_split]; rfl

/-- Of a family of assertions on some contents, each holds at some contents. -/
theorem bigSep_some {ι V : Type} (s : Finset ι) (Φ : ι → V → sProp 𝕄) (f : V) :
    (bigSep s fun i => Φ i f) ⊢ bigSep s fun i => iprop(∃ f, Φ i f) :=
  bigSep_mono fun i _ => (show Φ i f ⊢ iprop(∃ f, Φ i f) from by iintro H; iexists f; iexact H)

/-- The column blocks' parts of one buffer, each at some contents. -/
theorem xt_parts (c : Dev nD) (f : Vec F S256x4096 .fp8e4m3) :
    full c cc0_scratch1 f ⊢ iprop((∃ f, xtPts c 0 f) ∗ bigSep Finset.univ fun i : Fin 15 => iprop(∃ f, xtPts c (i.val + 1) f)) := by
  rw [xt_split]
  iintro ⟨H, HB⟩
  isplitl [H]; · iexists f; iexact H
  iapply (bigSep_some Finset.univ (fun (i : Fin 15) f => xtPts c (i.val + 1) f) f) $$ HB
theorem wc_parts (c : Dev nD) (f : Vec F S4096x2048 .fp8e4m3) : full c cc0_scratch2 f ⊢ Wcs w c 0 := by
  rw [wc_split, Wcs_start]
  iintro HB
  isplitr; · iempintro
  iapply (bigSep_some Finset.univ (fun (i : Fin 16) f => wcPts c (qs i) f) f) $$ HB
theorem wt_parts (c : Dev nD) (f : Vec F S4x256x2048 .f32) :
    full c cc0_scratch3 f ⊢ iprop((bigSep Finset.univ fun j : Fin 4 => semVal ((c : Thread nD τ), .dma (wS j)) 0) -∗ bigSep Finset.univ fun j => Free c j) := by
  unfold Free
  rw [wt_split, bigSep_sep']
  iintro HB HV
  isplitl [HB]
  · iapply (bigSep_some Finset.univ (fun (j : Fin 4) f => wtPts c j.val f) f) $$ HB
  iexact HV

end Cert.A2A

end
-- ==== Proof.Body.lean ====
/- The kernel's body on one device, the parts in the printed order. -/
module

public import proofs.«01_k».proof.Proof.Convert
public import proofs.«01_k».proof.Proof.Split

@[expose] public section

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Vec F S4096x256 .fp8e4m3) (w : Dev nD → Vec F S4096x2048 .f32) (K : Dev nD × CI → ℕ)

variable (sx sw : Dev nD → Vec F S1 .f32)

/-- What a device holds when its kernel's last operation is done. -/
def Done (c : Dev nD) : sProp 𝕄 :=
  iprop(Ow c 0 ∗ Swt x c 15 ∗ Rcv x c 15 ∗ Wcs w c 16 ∗ Dq w c 16 16
    ∗ (Free c (slot ⟨12, Nat.le_of_ble_eq_true rfl⟩) ∗ Free c (slot ⟨13, Nat.le_of_ble_eq_true rfl⟩) ∗ Free c (slot ⟨14, Nat.le_of_ble_eq_true rfl⟩) ∗ Free c (slot ⟨15, Nat.le_of_ble_eq_true rfl⟩))
    ∗ xtPts c 0 (XT x c) ∗ xsPts c c.val (x c) ∗ atPos ER (barCell c) 1 ∅ 0
    ∗ full c cc0_stg0_0 (x c) ∗ full c cc0_stg1_0 (sx c) ∗ full c cc0_stg2_0 (sw c) ∗ full c cc0_stg3_0 (OUT x w sx sw c))

set_option maxHeartbeats 2000000 in
/-- The kernel's body, run part by part: from nothing signalled, sent or fetched to everything received, converted and multiplied. -/
theorem run_body (c : Dev nD) {Q} :
    records x K ⊢ iprop(Sig c 0 -∗ full c cc0_stg0_0 (x c) -∗ full c cc0_stg1_0 (sx c) -∗ full c cc0_stg2_0 (sw c) -∗ (∃ f, full c cc0_stg3_0 f)
      -∗ (∃ f, full c cc0_scratch0 f) -∗ (∃ f, xtPts c 0 f) -∗ Wcs w c 0 -∗ Dq w c 0 0
      -∗ Free c (slot ⟨0, Nat.le_of_ble_eq_true rfl⟩) -∗ Free c (slot ⟨1, Nat.le_of_ble_eq_true rfl⟩) -∗ Free c (slot ⟨2, Nat.le_of_ble_eq_true rfl⟩) -∗ Free c (slot ⟨3, Nat.le_of_ble_eq_true rfl⟩)
      -∗ cred (tallyAt (barCell c) () 15) -∗ atPos ER (barCell c) 0 ∅ 0 -∗ Rcv x c 0
      -∗ (bigSep Finset.univ fun i : Fin 15 => dutyTok ER (sendCell c i) 0 0)
      -∗ (bigSep Finset.univ fun i : Fin 15 => dutyTok ER (recvCell (up c (i.val + 1)) i) 0 0)
      -∗ (bigSep Finset.univ fun i : Fin 15 => atPos ER (sendCell c i) 0 ∅ 0)
      -∗ (Done x w sx sw c -∗ Q ⟨⟩) -∗ WP c (called (cc0_body (F := F))) Q) := by
  simp only [called, cc0_body_eq_skeleton]
  unfold cc0_body_skel
  simp only [WP, wp_bind]
  iintro #HR HG HX Hsx Hsw Hout Hxs Hxt HW HD HF0 HF1 HF2 HF3 HcB HaB HV HtS HtR HaS Hk
  iapply (part1 x K c) $$ HR HG HX Hxs
  iintro %v2 %v25 %v16 ⟨HG, HX, Hxs⟩
  iapply (part2 x K c _ _ _) $$ HR HG
  iintro %r HG
  iapply (part3 x K c _ _ _) $$ HR HG HcB HaB
  iintro %r3 ⟨HO, HaB, HB⟩
  ihave ⟨Hxs, HP⟩ := (Entails.of_eq (xs_whole x c)) $$ Hxs
  ihave HS := (Entails.of_eq (Snd_start x c).symm) $$ [HO HB HtS HtR HP]
  · isplitl [HO]; · iexact HO
    isplitl [HB HtS HtR HP]
    · isplitl [HB]; · iexact HB
      isplitl [HtS]; · iexact HtS
      isplitl [HtR]; · iexact HtR
      iexact HP
    iempintro
  iapply (part4 x K c _ _) $$ HR HS
  iintro %r4 HS
  iapply (part5 x K c _ _) $$ HR HS
  iintro %r5 HS
  iapply (part6 x K c _) $$ HR HS
  iintro %r6 HS
  iapply (part7 x K c _) $$ HR HS
  iintro %r7 HS
  iapply (part8 x K c _ _) $$ HR HS
  iintro %r8 HS
  iapply (part9 x w K c _ _) $$ HR HS Hxs Hxt HD HF0
  iintro %r9 ⟨HS, Hxs, Hxt, HD⟩
  ihave ⟨HO, -, HcS⟩ := (Entails.of_eq (Snd_end x c)) $$ HS
  ihave HT := (Entails.of_eq (Swt_start x c).symm) $$ [HcS HaS]
  · isplitl [HcS HaS]
    · isplitl [HcS]; · iexact HcS
      iexact HaS
    iempintro
  iapply (part10 w c _) $$ HD HO HF1 HF2 HF3
  iintro ⟨HO, HD, HC⟩
  iapply (part11 w c _) $$ HD HO HC HW
  iintro %r11 ⟨HO, HD, HC, HW⟩
  iapply (part12 w c _) $$ HD HO HC HW
  iintro %r12 ⟨HO, HD, HW⟩
  iapply (part13 w c _ _ _) $$ HD HO HW
  iintro %r13 ⟨HO, HD, HC, HW⟩
  iapply (part14 w c _) $$ HD HO HC HW
  iintro %r14 ⟨HO, HD, HC, HW⟩
  iapply (part15 w c _ _) $$ HD HO HC HW
  iintro %r15 ⟨HO, HD, HC, HW⟩
  iapply (part16 w c _) $$ HD HO HC HW
  iintro %r16 ⟨HO, HD, HW⟩
  iapply (part17 x w K c _) $$ HR HD HO HW HV
  iintro %r17 ⟨HO, HD, HW, HV⟩
  iapply (part18 x K c _) $$ HR HO HV
  iintro %r18 ⟨HO, HV⟩
  iapply (part19 x w K c _) $$ HR HO HV HW Hxt Hout
  iintro %r19 ⟨HO, HV, HW, Hxt, Hout⟩
  iapply (part20 w c _) $$ HD HO HW
  iintro %r20 ⟨HO, HD, HC, HW⟩
  iapply (part21 w c _) $$ HD HO HC HW
  iintro %r21 ⟨HO, HD, HC, HW⟩
  iapply (part22 w c _ _ _) $$ HD HO HC HW
  iintro %r22 ⟨HO, HD, HC0, HC1, HW⟩
  iapply (part23 w c _) $$ HD HO HC1 HW
  iintro ⟨HO, HD, HC1, HC2, HC3, HW⟩
  iapply (part24 x w K c _) $$ HR HO HW HV
  iintro %r24 ⟨HO, HW, HV⟩
  iapply (part25 x w K c _) $$ HR HO HV Hout
  iintro ⟨HO, HV, Hout⟩
  iapply (part26 x w K sx sw c) $$ HR HO HW Hsx Hsw Hout HT
  iintro %r26 ⟨HO, HW, Hsx, Hsw, Hout, HT⟩
  iapply (part27 x K c) $$ HR HO HT
  iintro %r27 ⟨HO, HT⟩
  iapply (part28 x K c) $$ HR HO HT
  iintro %r28 ⟨HO, HT⟩
  simp only [Prog.lift, Prog.bind_op, Prog.bind_ret, Prog.pure_eq_ret]
  iapply (step_sent x K c ⟨13, Nat.le_of_ble_eq_true rfl⟩ rfl) $$ HR HO HT
  iintro ⟨HO, HT⟩
  simp only [WP, wp_ret]
  imodintro
  iapply (step_sent x K c ⟨14, Nat.le_of_ble_eq_true rfl⟩ rfl) $$ HR HO HT
  iintro ⟨HO, HT⟩
  simp only [WP, wp_ret]
  imodintro
  imodintro
  iapply Hk
  unfold Done
  isplitl [HO]; · iexact HO
  isplitl [HT]; · iexact HT
  isplitl [HV]; · iexact HV
  isplitl [HW]; · iexact HW
  isplitl [HD]; · iexact HD
  isplitl [HC0 HC1 HC2 HC3]
  · isplitl [HC0]; · iapply (Cur_free w c _); iexact HC0
    isplitl [HC1]; · iapply (Cur_free w c _); iexact HC1
    isplitl [HC2]; · iapply (Cur_free w c _); iexact HC2
    iapply (Cur_free w c _); iexact HC3
  isplitl [Hxt]; · iexact Hxt
  isplitl [Hxs]; · iexact Hxs
  isplitl [HaB]; · iexact HaB
  isplitl [HX]; · iexact HX
  isplitl [Hsx]; · iexact Hsx
  isplitl [Hsw]; · iexact Hsw
  iexact Hout

end Cert.A2A

end
-- ==== Proof.Obligation.lean ====
/- The kernel's body as the launch needs it: what a device starts from, what it ends with, and that the body leads from one to the other. -/
module

public import proofs.«01_k».proof.Proof.Body
public import proofs.«01_k».proof.Proof.Gen.KernelIdeal.Frame
public import Idealize.ShloMosaic.Lib.Pipeline.Launch

@[expose] public section

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The arguments -/

/-- The activations, the weights and the two scales each device is launched on. -/
def inX (c : Dev nD) : Vec F S4096x256 .fp8e4m3 := m ((c : Thread nD τ).loc main_arg0)
def inW (c : Dev nD) : Vec F S4096x2048 .f32 := m ((c : Thread nD τ).loc main_arg1)
def inSx (c : Dev nD) : Vec F S1 .f32 := m ((c : Thread nD τ).loc main_arg2)
def inSw (c : Dev nD) : Vec F S1 .f32 := m ((c : Thread nD τ).loc main_arg3)
/-- What each device ends with. -/
def res (c : Dev nD) : Vec F S256x2048 .f32 := OUT (inX m) (inW m) (inSx m) (inSw m) c

/-! ## The staging windows: each is its whole array -/

theorem emb_x (t : Fin cfg0.N) (j : S4096x256.Idx) : ((cfg0.win 0).blk t).view.emb j = j := by
  obtain rfl := fin_N0 t
  funext a; apply Fin.ext
  match a with
  | ⟨0, _⟩ => show 0 * 4096 + 1 * (j 0).val = (j 0).val; omega
  | ⟨1, _⟩ => show 0 * 256 + 1 * (j 1).val = (j 1).val; omega
theorem emb_sx (t : Fin cfg0.N) (j : S1.Idx) : ((cfg0.win 1).blk t).view.emb j = j := by
  obtain rfl := fin_N0 t
  funext a; apply Fin.ext
  match a with
  | ⟨0, _⟩ => show 0 * 1 + 1 * (j 0).val = (j 0).val; omega
theorem emb_sw (t : Fin cfg0.N) (j : S1.Idx) : ((cfg0.win 2).blk t).view.emb j = j := by
  obtain rfl := fin_N0 t
  funext a; apply Fin.ext
  match a with
  | ⟨0, _⟩ => show 0 * 1 + 1 * (j 0).val = (j 0).val; omega
theorem emb_out (t : Fin cfg0.N) (j : S256x2048.Idx) : ((cfg0.win 3).blk t).view.emb j = j := by
  obtain rfl := fin_N0 t
  funext a; apply Fin.ext
  match a with
  | ⟨0, _⟩ => show 0 * 256 + 1 * (j 0).val = (j 0).val; omega
  | ⟨1, _⟩ => show 0 * 2048 + 1 * (j 1).val = (j 1).val; omega

/-! ## What a device starts from and ends with -/

/-- The kernel's own semaphores of a device at zero, by use: two no copy names, the send ones, the receive ones, the weight copies'. -/
def OwnV (c : Dev nD) : sProp 𝕄 :=
  iprop(semVal ((c : Thread nD τ), .dma ⟨4, by decide⟩) 0 ∗ (bigSep Finset.univ fun i : Fin 15 => semVal (sendCell c i) 0)
    ∗ semVal ((c : Thread nD τ), .dma ⟨20, by decide⟩) 0 ∗ (bigSep Finset.univ fun i : Fin 15 => semVal (recvCell c i) 0)
    ∗ bigSep Finset.univ fun j : Fin 4 => semVal ((c : Thread nD τ), .dma (wS j)) 0)

/-- A device's own share of the exchange's bookkeeping: its positions, the tokens of the duties it pays, its semaphores outside the exchange. -/
def linear (c : Dev nD) : sProp 𝕄 :=
  iprop((atPos ER (barCell c) 0 ∅ 0 ∗ (bigSep Finset.univ fun i : Fin 15 => atPos ER (sendCell c i) 0 ∅ 0) ∗ bigSep Finset.univ fun i : Fin 15 => atPos ER (recvCell c i) 0 ∅ 0)
    ∗ ((bigSep Finset.univ fun i : Fin 15 => dutyTok ER (barCell (up c (i.val + 1))) 0 (rv i)) ∗ (bigSep Finset.univ fun i : Fin 15 => dutyTok ER (sendCell c i) 0 0)
      ∗ bigSep Finset.univ fun i : Fin 15 => dutyTok ER (recvCell (up c (i.val + 1)) i) 0 0)
    ∗ semVal ((c : Thread nD τ), .dma ⟨4, by decide⟩) 0 ∗ semVal ((c : Thread nD τ), .dma ⟨20, by decide⟩) 0
    ∗ bigSep Finset.univ fun j : Fin 4 => semVal ((c : Thread nD τ), .dma (wS j)) 0)

/-- The units the other devices owe a device's cells. -/
def owedTo (c : Dev nD) : sProp 𝕄 :=
  iprop(cred (tallyAt (barCell c) () 15) ∗ bigSep Finset.univ fun i : Fin 15 => cred (tallyAt (recvCell c i) () NX))

/-- A device's scratch buffers, each at some contents. -/
def scratch (c : Dev nD) : sProp 𝕄 :=
  iprop((∃ f, full c cc0_scratch0 f) ∗ (∃ f, full c cc0_scratch1 f) ∗ (∃ f, full c cc0_scratch2 f) ∗ ∃ f, full c cc0_scratch3 f)

def start (c : Dev nD) : sProp 𝕄 :=
  iprop((∃ K, records (inX m) K ∗ linear c) ∗ owedTo c ∗ full c main_arg1 (inW m c))
def Φ₀ (c : Dev nD) : sProp 𝕄 := iprop(start m c ∗ scratch c)
def Φ₁ (c : Dev nD) : sProp 𝕄 := iprop((semVal (barCell c) 0 ∗ full c main_arg1 (inW m c)) ∗ OwnV c ∗ scratch c)

/-- The pipeline's proof data: the arrays as launched, every input block left in place, the result at `res`. -/
def dats (_ : Fin 1) (c : Dev nD) : Dat τ (Elt F) Unit ℕ UU ℕ cfg0 c where
  A w := m ((cfg0.win w).arr.view.loc (c : Thread nD τ))
  after w _ := match w with
    | ⟨0, _⟩ => inX m c
    | ⟨1, _⟩ => inSx m c
    | ⟨2, _⟩ => inSw m c
    | ⟨3, _⟩ => res m c
  Φ t := match t with
    | ⟨0, _⟩ => Φ₀ m c
    | ⟨_ + 1, _⟩ => Φ₁ m c
  q _ := fullShare
  owed t := match t with
    | ⟨0, _⟩ => OB c 0
    | ⟨_ + 1, _⟩ => 0

theorem before_x (c : Dev nD) (t : Fin cfg0.N) (d) : (dats m 0 c).before (0 : Fin 4) t d = inX m c := by
  unfold Dat.before; rw [if_pos (by rw [fin_N0 t]; rfl)]
  funext j; show m ((c : Thread nD τ).loc main_arg0) (((cfg0.win 0).blk t).view.emb j) = _; rw [emb_x]; rfl
theorem before_sx (c : Dev nD) (t : Fin cfg0.N) (d) : (dats m 0 c).before (1 : Fin 4) t d = inSx m c := by
  unfold Dat.before; rw [if_pos (by rw [fin_N0 t]; rfl)]
  funext j; show m ((c : Thread nD τ).loc main_arg2) (((cfg0.win 1).blk t).view.emb j) = _; rw [emb_sx]; rfl
theorem before_sw (c : Dev nD) (t : Fin cfg0.N) (d) : (dats m 0 c).before (2 : Fin 4) t d = inSw m c := by
  unfold Dat.before; rw [if_pos (by rw [fin_N0 t]; rfl)]
  funext j; show m ((c : Thread nD τ).loc main_arg3) (((cfg0.win 2).blk t).view.emb j) = _; rw [emb_sw]; rfl

/-- The result array after the run. -/
theorem final_out (c : Dev nD) : (dats m 0 c).arrAt (3 : Fin 4) cfg0.N = res m c :=
  (dats m 0 c).arrAt_eq_of_cover (3 : Fin 4) (res m c)
    (fun t _ => by
      show (cfg0.win 3).cut (grid0.coords t) (res m c) = _
      funext j
      show res m c j = res m c (((cfg0.win 3).blk t).view.emb j)
      rw [emb_out])
    fun i => ⟨t0_0, rfl, by have h := ((cfg0.win 3).blk t0_0).view.emb_mem_set i; rwa [emb_out] at h⟩

/-! ## Closing the exchange's cells -/

omit [FloatOps F] in
theorem bigSep_with_records {I : Type} [DecidableEq I] {S : Finset I} {R : sProp 𝕄} [BI.Persistent R] {Φ Ψ : I → sProp 𝕄}
    (h : ∀ i ∈ S, R ⊢ iprop(Φ i -∗ Ψ i)) : R ⊢ iprop(bigSep S Φ -∗ bigSep S Ψ) := by
  iintro #HR HS
  ihave HS := (show iprop(R ∗ bigSep S Φ) ⊢ bigSep S Ψ from
    (sep_mono_left (BI.bigSep_of_persistent S R)).trans (by
      rw [← bigSep_sep']
      exact bigSep_mono fun i hi => (show iprop(R ∗ Φ i) ⊢ Ψ i from by
        have := h i hi
        iintro ⟨HR, H⟩; iapply this $$ HR H))) $$ [HS]
  · isplitr; · iexact HR
    iexact HS
  iexact HS

variable (x : Dev nD → Vec F S4096x256 .fp8e4m3) (K : Dev nD × CI → ℕ)

omit [FloatOps F] in
/-- A cell whose round is over gives its semaphore back at zero. -/
theorem close_cell (ck : Dev nD × CI) : records x K ⊢ iprop(atPos ER (kcell ck) 1 ∅ 0 -∗ |={Set.univ}=> semVal (kcell ck) 0) := by
  iintro #HR Ha
  iapply (Rounds.cell_close ER (ringRd x) (Set.mem_univ (K ck)) (fun h => h) (R := 0 + 1) (duties_later x (kcell ck)))
  isplitr; · iapply (records_inv x K ck); iexact HR
  iexact Ha

omit [FloatOps F] in
theorem close_cells (ck : Fin 15 → Dev nD × CI) :
    records x K ⊢ iprop((bigSep Finset.univ fun i => atPos ER (kcell (ck i)) 1 ∅ 0) -∗ |={Set.univ}=> bigSep Finset.univ fun i => semVal (kcell (ck i)) 0) := by
  iintro #HR Ha
  iapply (bigSep_fupd Finset.univ fun i => (semVal (kcell (ck i)) 0 : sProp 𝕄))
  iapply (bigSep_with_records fun i _ => close_cell x K (ck i)) $$ HR Ha

theorem bigSep_four (Φ : Fin 4 → sProp 𝕄) :
    bigSep Finset.univ Φ = iprop(Φ (slot ⟨0, Nat.le_of_ble_eq_true rfl⟩) ∗ Φ (slot ⟨1, Nat.le_of_ble_eq_true rfl⟩) ∗ Φ (slot ⟨2, Nat.le_of_ble_eq_true rfl⟩) ∗ Φ (slot ⟨3, Nat.le_of_ble_eq_true rfl⟩)) :=
  bigSep_univ_eq_bigSepL [slot ⟨0, Nat.le_of_ble_eq_true rfl⟩, slot ⟨1, Nat.le_of_ble_eq_true rfl⟩, slot ⟨2, Nat.le_of_ble_eq_true rfl⟩, slot ⟨3, Nat.le_of_ble_eq_true rfl⟩] (by decide) (by decide) Φ

/-- What a device holds after its last operation, its cells closed and its buffers whole again. -/
theorem finish (c : Dev nD) :
    records (inX m) K ⊢ iprop(Done (inX m) (inW m) (inSx m) (inSw m) c
      -∗ (semVal ((c : Thread nD τ), .dma ⟨4, by decide⟩) 0 ∗ semVal ((c : Thread nD τ), .dma ⟨20, by decide⟩) 0)
      -∗ |={Set.univ}=> (Φ₁ m c ∗ Ow c 0 ∗ full c cc0_stg0_0 (inX m c) ∗ full c cc0_stg1_0 (inSx m c) ∗ full c cc0_stg2_0 (inSw m c) ∗ full c cc0_stg3_0 (res m c))) := by
  have hB : records (inX m) K ⊢ iprop(atPos ER (barCell c) 1 ∅ 0 -∗ |={Set.univ}=> semVal (barCell c) 0) := close_cell (inX m) K (c, none)
  have hS : records (inX m) K ⊢ iprop((bigSep Finset.univ fun i => atPos ER (sendCell c i) 1 ∅ 0) -∗ |={Set.univ}=> bigSep Finset.univ fun i => semVal (sendCell c i) 0) :=
    close_cells (inX m) K fun i => (c, some (false, i))
  have hV : records (inX m) K ⊢ iprop((bigSep Finset.univ fun i => atPos ER (recvCell c i) 1 ∅ 0) -∗ |={Set.univ}=> bigSep Finset.univ fun i => semVal (recvCell c i) 0) :=
    close_cells (inX m) K fun i => (c, some (true, i))
  unfold Done
  rw [Swt_end, Rcv_end, Wcs_end, Dq_end]
  iintro #HR ⟨HO, ⟨-, HaS, HpS⟩, ⟨-, HaR, HpR⟩, ⟨Hwc, -⟩, ⟨-, -, Hw⟩, ⟨HF0, HF1, HF2, HF3⟩, Hxt, Hxs, HaB, HX, Hsx, Hsw, Hout⟩ ⟨Hz4, Hz20⟩
  imod hB $$ HR HaB with HzB
  imod hS $$ HR HaS with HzS
  imod hV $$ HR HaR with HzR
  ihave HF := (Entails.of_eq (bigSep_four (fun j => Free (F := F) c j)).symm) $$ [HF0 HF1 HF2 HF3]
  · isplitl [HF0]; · iexact HF0
    isplitl [HF1]; · iexact HF1
    isplitl [HF2]; · iexact HF2
    iexact HF3
  unfold Free
  ihave ⟨HF, HzW⟩ := (Entails.of_eq (bigSep_sep' Finset.univ (fun j : Fin 4 => iprop(∃ f, wtPts (F := F) c j.val f)) fun j => (semVal ((c : Thread nD τ), .dma (wS j)) 0 : sProp 𝕄))) $$ HF
  ihave Hwt := (wt_join c) $$ HF
  ihave Hxs := (Entails.of_eq (xs_whole (inX m) c).symm) $$ [Hxs HpS]
  · isplitl [Hxs]; · iexact Hxs
    iexact HpS
  ihave Hxt := (Entails.of_eq (xt_whole (inX m) c).symm) $$ [Hxt HpR]
  · isplitl [Hxt]; · iexact Hxt
    iexact HpR
  imodintro
  unfold Φ₁ OwnV scratch
  isplitl [HzB HzS HzR HzW Hw Hz4 Hz20 Hxs Hxt Hwc Hwt]
  · isplitl [HzB Hw]
    · isplitl [HzB]; · iexact HzB
      iexact Hw
    isplitl [HzS HzR HzW Hz4 Hz20]
    · isplitl [Hz4]; · iexact Hz4
      isplitl [HzS]; · iexact HzS
      isplitl [Hz20]; · iexact Hz20
      isplitl [HzR]; · iexact HzR
      iexact HzW
    isplitl [Hxs]; · iexists _; iexact Hxs
    isplitl [Hxt]; · iexists _; iexact Hxt
    isplitl [Hwc]; · iexists _; iexact Hwc
    iexact Hwt
  isplitl [HO]; · iexact HO
  isplitl [HX]; · iexact HX
  isplitl [Hsx]; · iexact Hsx
  isplitl [Hsw]; · iexact Hsw
  iexact Hout

/-- From what the launch gives a device, its body runs to what the launch takes back. -/
theorem run_device (c : Dev nD) {Q} :
    Φ₀ m c ⊢ iprop(Ow c (OB c 0) -∗ full c cc0_stg0_0 (inX m c) -∗ full c cc0_stg1_0 (inSx m c) -∗ full c cc0_stg2_0 (inSw m c) -∗ (∃ f, full c cc0_stg3_0 f)
      -∗ ((Φ₁ m c ∗ Ow c 0 ∗ full c cc0_stg0_0 (inX m c) ∗ full c cc0_stg1_0 (inSx m c) ∗ full c cc0_stg2_0 (inSw m c) ∗ full c cc0_stg3_0 (res m c)) -∗ Q ⟨⟩)
      -∗ WP c (called (cc0_body (F := F))) Q) := by
  unfold Φ₀ start linear owedTo scratch
  iintro ⟨⟨⟨%K, #HR, ⟨HaB, HaS, HaR⟩, ⟨HtB, HtS, HtR⟩, Hz4, Hz20, HzW⟩, ⟨HcB, HcR⟩, Hw⟩, Hxs, ⟨%f1, Hxt⟩, ⟨%f2, Hwc⟩, ⟨%f3, Hwt⟩⟩ HO HX Hsx Hsw Hout Hk
  ihave ⟨Hxt, HxB⟩ := (xt_parts c f1) $$ Hxt
  ihave HW := (wc_parts (inW m) c f2) $$ Hwc
  ihave HF := (wt_parts c f3) $$ Hwt HzW
  ihave ⟨HF0, HF1, HF2, HF3⟩ := (Entails.of_eq (bigSep_four (fun j => Free (F := F) c j))) $$ HF
  ihave HG := (Entails.of_eq (Sig_start c).symm) $$ [HO HtB HxB]
  · isplitl [HO]; · iexact HO
    isplitl [HtB]; · iexact HtB
    iexact HxB
  ihave HD := (Entails.of_eq (Dq_start (inW m) c).symm) $$ [Hw]
  · isplitl [Hw]; · iexact Hw
    isplitr <;> iempintro
  ihave HV := (Entails.of_eq (Rcv_start (inX m) c).symm) $$ [HcR HaR]
  · isplitl [HcR HaR]
    · isplitl [HcR]; · iexact HcR
      iexact HaR
    iempintro
  simp only [WP]
  iapply wp_fupd
  iapply (run_body (inX m) (inW m) K (inSx m) (inSw m) c) $$ HR HG HX Hsx Hsw Hout Hxs Hxt HW HD HF0 HF1 HF2 HF3 HcB HaB HV HtS HtR HaS
  iintro HD
  imod (finish m K c) $$ HR HD [Hz4 Hz20] with H
  · isplitl [Hz4]; · iexact Hz4
    iexact Hz20
  imodintro
  iapply Hk
  iexact H

end Cert.A2A

end
-- ==== Proof.Launch.lean ====
/- The launch of the all-to-all: the bookkeeping minted and dealt out to the sixteen devices, and the run of the whole program. -/
module

public import proofs.«01_k».proof.Proof.Obligation
public import proofs.«01_k».proof.Proof.Gen.KernelIdeal.Frame
public import Idealize.ShloMosaic.Lib.Pipeline.Launch
public import Idealize.ShloMosaic.Lib.Pipeline.CollectiveSegs

@[expose] public section

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ (∃ d, stg c cc0_stg3_0 ((dats m 0 c).before (3 : Fin 4) t0_0 d)))
def bodyPost (c : Dev nD) : sProp 𝕄 :=
  iprop(Φ₁ m c ∗ (dats m 0 c).owesAt () t0_0.succ
    ∗ stg c cc0_stg0_0 (inX m c) ∗ stg c cc0_stg1_0 (inSx m c) ∗ stg c cc0_stg2_0 (inSw m c) ∗ stg c cc0_stg3_0 (res m c))

omit [FloatOps F] in
/-- Full ownership of a whole staging memref is its points-to. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- One device's body, from the staging buffers as the pipeline filled them. -/
theorem sound_body (c : Dev nD) : bodyPre m c ⊢ WP c (called (cc0_body (F := F))) fun _ => bodyPost m c := by
  unfold bodyPre Dat.owesAt Pipeline.owesWithin
  iintro ⟨HP, ⟨%W, %hW, HO⟩, ⟨%d0, %f0, %h0, HX⟩, ⟨%d1, %f1, %h1, Hsx⟩, ⟨%d2, %f2, %h2, Hsw⟩, ⟨%d3, %f3, -, Hout⟩⟩
  rw [before_x] at h0; rw [before_sx] at h1; rw [before_sw] at h2
  subst h0 h1 h2
  have hrun := run_device m c (Q := fun _ => bodyPost m c)
  unfold Ow at hrun
  iapply hrun $$ HP [HO] HX Hsx Hsw [Hout]
  · iexists W; iexact HO
  · iexists f3; iexact Hout
  unfold bodyPost Dat.owesAt Pipeline.owesWithin
  iintro ⟨HP, ⟨%W', HO⟩, HX, Hsx, Hsw, Hout⟩
  isplitl [HP]; · iexact HP
  isplitl [HO]
  · iexists W'
    isplitr; · ipureintro; exact fun _ _ => Or.inl trivial
    iexact HO
  isplitl [HX]
  · iexists _; isplitr; · (ipureintro; rfl)
    iexact HX
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

set_option maxRecDepth 16000 in
theorem body_obligation (c : Dev nD) : BodyObligation (dats (F := F) m 0 c) (defs₀ (F := F)) 𝒱₀ () Set.univ := fun t => by
  rw [fin_N0 t, bigSep_W0, bigSep_W0]
  simp only [owns_whole_eq]
  exact sound_body m c

/-! ## The kernel's own semaphores, by use -/

/-- The thirty-six semaphores the kernel's scratch arguments name. -/
def osem : Fin 36 → SemLoc sig := fun k => .dma ⟨4 + k.val, by have := k.isLt; show 4 + k.val < 40; omega⟩

theorem ownSemFacts : Pipeline.OwnSemFacts cfg0.spec osem := by decide

theorem bigSep_fin_add {M : Type} [URA M] {a b : ℕ} (Φ : Fin (a + b) → sProp M) :
    bigSep Finset.univ Φ = iprop((bigSep Finset.univ fun i : Fin a => Φ (Fin.castAdd b i)) ∗ bigSep Finset.univ fun j : Fin b => Φ (Fin.natAdd a j)) := by
  rw [bigSep_univ_equiv finSumFinEquiv, bigSep_univ_sum]; rfl

omit [FloatOps F] in
theorem ownSems0_eq (c : Dev nD) :
    (Pipeline.ownSems0 (Ix := Unit) (Name := ℕ) (U := UU) (Lvl := ℕ) (Val := Elt F) (τ := τ) osem c : sProp 𝕄) = OwnV c := by
  unfold Pipeline.ownSems0 OwnV
  have h1 (Φ : Fin 1 → sProp 𝕄) : bigSep Finset.univ Φ = Φ 0 := bigSep_univ_eq_bigSepL [0] (by decide) (by decide) Φ
  rw [bigSep_fin_add (a := 1) (b := 35), bigSep_fin_add (a := 15) (b := 20), bigSep_fin_add (a := 1) (b := 19), bigSep_fin_add (a := 15) (b := 4), h1, h1]
  congr 1

omit [FloatOps F] in
/-- The barrier semaphore is the one a launch does not scope. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The bookkeeping minted -/

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- A device's own cells' duty tokens: its barrier's fifteen, one for each send and each receive cell. -/
abbrev tokOf (cj : Dev nD × (Option Bool × Fin 15)) : GSem nD τ sig × ℕ × Fin 15 := match cj.2.1 with
  | none => (barCell cj.1, 0, cj.2.2) | some false => (sendCell cj.1 cj.2.2, 0, 0) | some true => (recvCell cj.1 cj.2.2, 0, 0)
theorem tokOf_injective : Function.Injective (tokOf : Dev nD × (Option Bool × Fin 15) → GSem nD τ sig × ℕ × Fin 15) := by
  rintro ⟨c, b, i⟩ ⟨c', b', i'⟩ h
  have h1 : c = c' := by
    have := congrArg (fun x : GSem nD τ sig × ℕ × Fin 15 => x.1.1.1) h
    rcases b with _ | _ | _ <;> rcases b' with _ | _ | _ <;> exact this
  have h2 := congrArg (fun x : GSem nD τ sig × ℕ × Fin 15 => x.1.2) h
  have h3 := congrArg (fun x : GSem nD τ sig × ℕ × Fin 15 => x.2.2) h
  subst h1
  rcases b with _ | _ | _ <;> rcases b' with _ | _ | _
  · have : i = i' := h3
    rw [this]
  · cases h2
  · cases h2
  · cases h2
  · rw [show i = i' from sendS_inj (SemLoc.dma.inj h2)]
  · exact absurd (SemLoc.dma.inj h2) (sendS_ne_recvS i i')
  · cases h2
  · exact absurd (SemLoc.dma.inj h2).symm (sendS_ne_recvS i' i)
  · rw [show i = i' from recvS_inj (SemLoc.dma.inj h2)]
def ringToks : Finset (GSem nD τ sig × ℕ × Fin 15) := Finset.univ.map ⟨tokOf, tokOf_injective⟩

def u₀ : UU := (initOf (Pipeline.cells cfgs cellOf_inj) (Pipeline.launchToks cfgs cellOf_inj), (initOf ringCells ringToks, (1 : Counters)))

omit [FloatOps F] in
theorem own_u₀ : (ownU u₀ : sProp 𝕄)
    ⊢ iprop(BI.own (EP (initOf (Pipeline.cells cfgs cellOf_inj) (Pipeline.launchToks cfgs cellOf_inj))) ∗ BI.own (ER (initOf ringCells ringToks))) :=
  ownU_pair _ _

/-- The duty tokens of device `c`'s own cells. -/
def toks (c : Dev nD) : sProp 𝕄 :=
  iprop((bigSep Finset.univ fun i : Fin 15 => dutyTok ER (barCell c) 0 i) ∗ (bigSep Finset.univ fun i : Fin 15 => dutyTok ER (sendCell c i) 0 0)
    ∗ bigSep Finset.univ fun i : Fin 15 => dutyTok ER (recvCell c i) 0 0)
/-- What the launch deals device `c`. -/
def G (c : Dev nD) : sProp 𝕄 :=
  iprop((bigSep Finset.univ fun k : CI => roundState ER (ringRd (inX m)) (kcell (c, k)) 0)
    ∗ (bigSep Finset.univ fun k : CI => iprop(atPos ER (kcell (c, k)) 0 ∅ 0 ∗ reached ER (kcell (c, k)) 0)) ∗ toks c)
/-- The exchange's lasting facts, the levels aside. -/
def recs (K : Dev nD × CI → ℕ) : sProp 𝕄 :=
  iprop((bigSep Finset.univ fun ck : Dev nD × CI => cellInv ER (ringRd (inX m)) (K ck) (kcell ck))
    ∗ bigSep Finset.univ fun ck : Dev nD × CI => reached ER (kcell ck) 0)
omit [FloatOps F] in
instance recs_persistent (K : Dev nD × CI → ℕ) : BI.Persistent (recs m K) := by unfold recs; infer_instance
/-- What the step over all devices makes of it. -/
def G' (c : Dev nD) : sProp 𝕄 := iprop(∃ K, recs m K ∗ linear c)

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [BI.bigSep_map, bigSep_univ_prod]; rfl
  have hT : bigSep ringToks (fun x => (dutyTok ER x.1 x.2.1 x.2.2 : sProp 𝕄)) = bigSep Finset.univ fun c : Dev nD => toks c := by
    unfold ringToks; rw [BI.bigSep_map, bigSep_univ_prod]
    exact bigSep_congr fun c _ => by
      rw [bigSep_univ_prod, bigSep_univ_eq_bigSepL [none, some false, some true] (by decide) (by decide)]; rfl
  iintro HX
  imod (Rounds.fund ER (ringRd (inX m)) ringCells ringToks) $$ HX with ⟨Hst, Hr, Hat, Htok⟩
  imodintro
  ihave Hst := (Entails.of_eq (hX fun g => roundState ER (ringRd (inX m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
/-- A family over a device's cells, by use. -/
theorem bigSep_CI (Φ : CI → sProp 𝕄) :
    bigSep Finset.univ Φ = iprop(Φ none ∗ (bigSep Finset.univ fun i => Φ (some (false, i))) ∗ bigSep Finset.univ fun i => Φ (some (true, i))) := by
  have e1 : Function.Injective fun i : Fin 15 => (some (false, i) : CI) := fun i j h => by simpa using h
  have e2 : Function.Injective fun i : Fin 15 => (some (true, i) : CI) := fun i j h => by simpa using h
  have hu : (Finset.univ : Finset CI) = {none} ∪ (Finset.univ.map ⟨_, e1⟩ ∪ Finset.univ.map ⟨_, e2⟩) := by
    ext k; rcases k with _ | ⟨_ | _, i⟩ <;> simp
  rw [hu, BI.bigSep_union (by rw [Finset.disjoint_left]; intro k hk; rw [Finset.mem_singleton.mp hk]; simp),
    BI.bigSep_union (by rw [Finset.disjoint_left]; intro k hk; obtain ⟨i, -, rfl⟩ := Finset.mem_map.mp hk; simp), bigSep_singleton, BI.bigSep_map, BI.bigSep_map]
  rfl

/-! ## The cells opened, the tokens dealt -/

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd (inX m)) κ (kcell (c, k))))
          ∗ (bigSep Finset.univ fun k => iprop(atPos ER (kcell (c, k)) 0 ∅ 0 ∗ reached ER (kcell (c, k)) 0)) ∗ toks c
          ∗ semVal ((c : Thread nD τ), .dma ⟨4, by decide⟩) 0 ∗ semVal ((c : Thread nD τ), .dma ⟨20, by decide⟩) 0
          ∗ bigSep Finset.univ fun j : Fin 4 => semVal ((c : Thread nD τ), .dma (wS j)) 0) := by
  rw [ownSems0_eq, unscopedSems0_eq]
  unfold G OwnV
  iintro ⟨⟨H4, HS, H20, HV, HW⟩, HB, Hst, Hat, Htok⟩
  ihave Hv := (Entails.of_eq (bigSep_CI (F := F) fun k => semVal (kcell (c, k)) 0).symm) $$ [HB HS HV]
  · isplitl [HB]; · iexact HB
    isplitl [HS]; · iexact HS
    iexact HV
  imod (show iprop((bigSep Finset.univ fun k : CI => semVal (kcell (c, k)) 0) ∗ bigSep Finset.univ fun k : CI => roundState ER (ringRd (inX m)) (kcell (c, k)) 0)
      ⊢ (|={Set.univ}=> bigSep Finset.univ fun k => iprop(∃ κ : ℕ, cellInv ER (ringRd (inX m)) κ (kcell (c, k))) : sProp 𝕄) from by
        rw [← bigSep_sep']
        exact (bigSep_mono fun k _ => (Rounds.body_intro ER (ringRd (inX m)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [H4]; · iexact H4
  isplitl [H20]; · iexact H20
  iexact HW

/-- The tokens of the duties device `c` pays. -/
def payToks (c : Dev nD) : sProp 𝕄 :=
  iprop((bigSep Finset.univ fun i : Fin 15 => dutyTok ER (barCell (up c (i.val + 1))) 0 (rv i)) ∗ (bigSep Finset.univ fun i : Fin 15 => dutyTok ER (sendCell c i) 0 0)
    ∗ bigSep Finset.univ fun i : Fin 15 => dutyTok ER (recvCell (up c (i.val + 1)) i) 0 0)

/-- Who signals whom: device `c`'s signal at offset `i + 1` is the other device's duty `rv i`. -/
def sigEquiv : Dev nD × Fin 15 ≃ Dev nD × Fin 15 where
  toFun p := (up p.1 (p.2.val + 1), rv p.2)
  invFun p := (up p.1 (p.2.val + 1), rv p.2)
  left_inv p := Prod.ext (up_rv p.1 p.2) (rv_rv p.2)
  right_inv p := Prod.ext (up_rv p.1 p.2) (rv_rv p.2)
theorem up_rv' (c : Dev nD) (i : Fin 15) : up (up c ((rv i).val + 1)) (i.val + 1) = c := by
  have h := up_rv c (rv i); rwa [rv_rv] at h
/-- Who sends to whom. -/
def sendEquiv : Dev nD × Fin 15 ≃ Dev nD × Fin 15 where
  toFun p := (up p.1 (p.2.val + 1), p.2)
  invFun p := (up p.1 ((rv p.2).val + 1), p.2)
  left_inv p := Prod.ext (up_rv p.1 p.2) rfl
  right_inv p := Prod.ext (up_rv' p.1 p.2) rfl

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    ← bigSep_univ_prod (fun p : Dev nD × Fin 15 => (dutyTok ER (barCell p.1) 0 p.2 : sProp 𝕄)), bigSep_univ_equiv sigEquiv (fun p : Dev nD × Fin 15 => (dutyTok ER (barCell p.1) 0 p.2 : sProp 𝕄)),
    ← bigSep_univ_prod (fun p : Dev nD × Fin 15 => (dutyTok ER (recvCell p.1 p.2) 0 0 : sProp 𝕄)), bigSep_univ_equiv sendEquiv (fun p : Dev nD × Fin 15 => (dutyTok ER (recvCell p.1 p.2) 0 0 : sProp 𝕄)),
    bigSep_univ_prod, bigSep_univ_prod]
  exact Entails.of_eq rfl

omit [FloatOps F] in
theorem ghost_intro (K : Dev nD × CI → ℕ) (c : Dev nD) :
    recs m K ⊢ iprop(((bigSep Finset.univ fun k : CI => atPos ER (kcell (c, k)) 0 ∅ 0) ∗ payToks c
      ∗ semVal ((c : Thread nD τ), .dma ⟨4, by decide⟩) 0 ∗ semVal ((c : Thread nD τ), .dma ⟨20, by decide⟩) 0
      ∗ bigSep Finset.univ fun j : Fin 4 => semVal ((c : Thread nD τ), .dma (wS j)) 0) -∗ G' m c) := by
  rw [bigSep_CI]
  unfold G' linear payToks
  iintro #HR ⟨Hat, Htok, Hz⟩
  iexists K
  isplitr; · iexact HR
  isplitl [Hat]; · iexact Hat
  isplitl [Htok]; · iexact Htok
  iexact Hz

omit [FloatOps F] in
theorem regroup :
    (bigSep Finset.univ fun c : Dev nD => iprop((bigSep Finset.univ fun k => iprop(∃ κ : ℕ, cellInv ER (ringRd (inX m)) κ (kcell (c, k))))
          ∗ (bigSep Finset.univ fun k => iprop(atPos ER (kcell (c, k)) 0 ∅ 0 ∗ reached ER (kcell (c, k)) 0)) ∗ toks c
          ∗ semVal ((c : Thread nD τ), .dma ⟨4, by decide⟩) 0 ∗ semVal ((c : Thread nD τ), .dma ⟨20, by decide⟩) 0
          ∗ bigSep Finset.univ fun j : Fin 4 => semVal ((c : Thread nD τ), .dma (wS j)) 0) : sProp 𝕄)
      ⊢ bigSep Finset.univ (G' m) := by
  rw [bigSep_sep', bigSep_sep', bigSep_sep' Finset.univ (fun c : Dev nD => (toks c : sProp 𝕄)), ← bigSep_univ_prod (fun ck : Dev nD × CI => iprop(∃ κ : ℕ, cellInv ER (ringRd (inX m)) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok, Hz⟩
  ihave ⟨%K, #HI⟩ := (BI.bigSep_exists_pi Finset.univ (fun (ck : Dev nD × CI) (κ : ℕ) => (cellInv ER (ringRd (inX m)) κ (kcell ck) : sProp 𝕄))) $$ HI
  ihave Htk := (toks_around (F := F)) $$ Htok
  iapply (bigSep_with_records fun c _ => ghost_intro m K c)
  · unfold recs; isplitl; · iexact HI
    iexact HR
  · iapply (Entails.of_eq ((bigSep_sep' Finset.univ (fun c : Dev nD => bigSep Finset.univ fun k : CI => (atPos ER (kcell (c, k)) 0 ∅ 0 : sProp 𝕄)) _).trans
      (congrArg _ (bigSep_sep' Finset.univ payToks _))).symm)
    isplitl [Hat]; · iexact Hat
    isplitl [Htk]; · iexact Htk
    iexact Hz

omit [FloatOps F] in
/-- The step over all devices at once, from the semaphores and what the launch dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of the launch -/

theorem bar_eq_iff {a b : Dev nD} : barCell a = barCell b ↔ a = b :=
  ⟨fun h => congrArg (fun g : GSem nD τ sig => g.1.1) h, fun h => h ▸ rfl⟩
theorem recv_eq_iff {a b : Dev nD} {i j : Fin 15} : recvCell a i = recvCell b j ↔ a = b ∧ i = j :=
  ⟨fun h => ⟨congrArg (fun g : GSem nD τ sig => g.1.1) h, recvS_inj (SemLoc.dma.inj (congrArg Prod.snd h))⟩, fun h => by rw [h.1, h.2]⟩
theorem recv_ne_bar' (a b : Dev nD) (i : Fin 15) : recvCell a i ≠ barCell b := fun h => by
  have := congrArg Prod.snd h; cases this

/-- What is owed to a cell, term by term. -/
theorem OB_apply (d : Dev nD) (g : GSem nD τ sig) :
    OB d 0 g () = (∑ i : Fin 15, tallyAt (recvCell (up d (i.val + 1)) i) () NX g ()) + ∑ i : Fin 15, tallyAt (barCell (up d (i.val + 1))) () 1 g () := by
  unfold OB OR
  rw [tl_zero, Pi.add_apply, Finsupp.add_apply, Finset.sum_apply, Finset.sum_apply, Finsupp.finset_sum_apply, Finsupp.finset_sum_apply]

theorem owed_bar (d c : Dev nD) : OB d 0 (barCell c) () = ∑ i : Fin 15, if up d (i.val + 1) = c then 1 else 0 := by
  rw [OB_apply, Finset.sum_eq_zero fun i _ => by rw [tallyAt_ne_cell (recv_ne_bar' _ _ _).symm]; rfl, Nat.zero_add]
  refine Finset.sum_congr rfl fun i _ => ?_
  rw [tallyAt_apply]
  exact if_congr ⟨fun h => (bar_eq_iff.mp h.1).symm, fun h => ⟨bar_eq_iff.mpr h.symm, rfl⟩⟩ rfl rfl

theorem owed_recv (d c : Dev nD) (j : Fin 15) : OB d 0 (recvCell c j) () = if up d (j.val + 1) = c then NX else 0 := by
  rw [OB_apply, Finset.sum_eq_zero (f := fun i : Fin 15 => tallyAt (barCell (up d (i.val + 1))) () 1 (recvCell c j) ())
    fun i _ => by rw [tallyAt_ne_cell (recv_ne_bar' _ _ _)]; rfl, Nat.add_zero,
    Finset.sum_eq_single j (fun i _ hi => by rw [tallyAt_apply, if_neg fun h => hi (recv_eq_iff.mp h.1).2.symm]) (fun h => absurd (Finset.mem_univ j) h), tallyAt_apply]
  exact if_congr ⟨fun h => (recv_eq_iff.mp h.1).1.symm, fun h => ⟨recv_eq_iff.mpr ⟨h.symm, rfl⟩, rfl⟩⟩ rfl rfl

/-- One device is `k` places before a given one. -/
theorem sum_up (k : ℕ) (hk : k ≤ 16) (c : Dev nD) (n : ℕ) : (∑ d : Dev nD, if up d k = c then n else 0) = n := by
  rw [show (∑ d : Dev nD, if up d k = c then n else 0) = ∑ e : Dev nD, if e = c then n else 0 from (upEquiv k hk).sum_comp fun e => if e = c then n else 0, Finset.sum_ite_eq', if_pos (Finset.mem_univ _)]

theorem launch_bar (c : Dev nD) :
    tallyOn (barCell c) (launchCredit (Pipeline.owing fun d => OB d 0) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun (i : Fin 15) _ => sum_up (i.val + 1) (by have := i.isLt; omega) c 1]
  rw [Finset.sum_const, Finset.card_univ, Fintype.card_fin, smul_eq_mul]

theorem launch_recv (c : Dev nD) (j : Fin 15) :
    tallyOn (recvCell c j) (launchCredit (Pipeline.owing fun d => OB d 0) 0 (recvCell c j)) = (tallyAt (recvCell c j) () NX : CellTallies nD τ sig Unit) := by
  unfold tallyAt; refine congrArg _ (Finsupp.ext fun u => ?_); cases u
  rw [Pipeline.launchCredit_owing, Finsupp.single_eq_same, Finset.sum_congr rfl fun d _ => owed_recv d c j, sum_up (j.val + 1) (by have := j.isLt; omega) c NX]

omit [FloatOps F] in
theorem creds (c : Dev nD) : (Pipeline.launchCred (fun d => OB d 0) c : sProp 𝕄) ⊢ owedTo c := by
  unfold Pipeline.launchCred owedTo
  rw [bigSep_univ_at _ (SemLoc.reg barS), launch_bar]
  refine sep_mono_right ?_
  have e : Function.Injective fun i : Fin 15 => (SemLoc.dma (recvS i) : SemLoc sig) := fun i j h => recvS_inj (SemLoc.dma.inj h)
  refine (show _ ⊢ bigSep (Finset.univ.map ⟨_, e⟩) fun sm => cred (tallyOn ((c.tc : Thread nD τ), sm) (launchCredit (Pipeline.owing fun d => OB d 0) 0 ((c.tc : Thread nD τ), sm)))
    from bigSep_subset fun s hs => ?_).trans (Entails.of_eq ?_)
  · obtain ⟨i, -, rfl⟩ := Finset.mem_map.mp hs
    exact Finset.mem_erase.mpr ⟨fun h => (by cases h), Finset.mem_univ _⟩
  · rw [BI.bigSep_map]
    exact bigSep_congr fun i _ => by rw [← launch_recv]; rfl

/-! ## The run -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => OB d 0) c ∗ prngReg c (ρ c) ∗ G' m c)
      ⊢ |={Set.univ}=> iprop(start m c ∗ emp) := by
  rw [Pipeline.unscopedRestP_none, unscopedRest0_eq]
  unfold G' start recs records
  iintro ⟨Hw, #Hlev, Hcr, -, ⟨%K, ⟨HI, HR⟩, HG⟩⟩
  ihave Hc := (creds (F := F) c) $$ Hcr
  imodintro
  isplitl
  · isplitl [HI HR HG]
    · iexists K
      isplitl [HI HR]
      · isplitl [HI]; · iexact HI
        isplitl [HR]; · iexact HR
        iexact Hlev
      iexact HG
    isplitl [Hc]; · iexact Hc
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop((semVal (barCell c) 0 ∗ full c main_arg1 (inW m c)) ∗ Pipeline.ownSems0 osem c ∗ Pipeline.scopedRest cfg0.spec c) := by
  rw [show (dats m 0 c).Φ (Fin.last cfg0.N) = Φ₁ m c from rfl, scopedRest0_eq, ownSems0_eq]
  unfold Φ₁ scratch
  exact Entails.of_eq rfl

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- A device's final memory and counters, read off what it holds at the end. -/
theorem final_read (c : Dev nD) (s' : Phys nD τ sig (Elt F)) :
    iprop((semVal (barCell c) 0 ∗ full c main_arg1 (inW m c)) ∗ emp ∗ SI s')
      ⊢ (|={Set.univ}=> iprop(⌜(∀ sm : SemLoc sig, sm.isScoped .tc = false → s'.mem.sem ((c.tc : Thread nD τ), sm) = 0)
        ∧ s'.mem.mem ((c : Thread nD τ).loc main_arg1) = inW m c⌝ ∗ SI s') : sProp 𝕄) := by
  iintro ⟨⟨Hb, Hw⟩, -, HSI⟩
  imod (Pipeline.unscopedSems0_read (X := semVal (barCell c) 0) (c := c) ((Entails.of_eq (unscopedSems0_eq c).symm).trans fupd_intro) s') $$ [Hb HSI] with ⟨%h1, HSI⟩
  · isplitl [Hb] <;> iassumption
  ihave %h2 := (SI_pointsTo_agree (st := s')) $$ [Hw HSI]
  · isplitl [HSI] <;> iassumption
  imodintro
  isplitr
  · ipureintro; exact ⟨h1, funext fun i => h2 i (Finset.mem_univ i)⟩
  iexact HSI

/-- What a run of the kernel ends with: on every device the result computed, the four arguments as they were, and every
    semaphore at zero. -/
def Final : PUnit × MemSt nD τ sig (Elt F) → Prop := fun r =>
  (∀ c : Dev nD, r.2.mem ((c : Thread nD τ).loc main_v1) = res m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) ∧ r.2.sem = fun _ => 0

set_option maxRecDepth 8000 in
/-- For any float values, from any memory and with every counter at zero: every fair execution of the sixteen kernels
    ends, and ends as `Final` says. -/
theorem run_main : θ_run defs (onTc (τ := τ) (main (F := F))) (s₀ m ρ) (Final m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => OB d 0) (howed₀ := fun _ => rfl) (howedN := fun _ => rfl)
    (L := L) (lv := lv) (hL := L_of_ne) (hwaits := waits m)
    (G := G m) (G' := G' m) (u₀ := u₀)
    (hu₀ := by
      iintro Hu
      ihave ⟨HP, HX⟩ := (own_u₀ (F := F)) $$ Hu
      imod (fund_ring m) $$ HX with HG
      imodintro
      isplitl [HP] <;> iassumption)
    (hglob := glob m)
    (hA := fun _ _ => rfl) (hpf := fun _ k => k.elim0)
    (X := start m) (Y := fun c => iprop(semVal (barCell c) 0 ∗ full c main_arg1 (inW m c))) (Z := fun _ => iprop(emp))
    (hX := start_intro m ρ) (hin := phi0_intro m) (hout := phi1_exit m)
    (QY := fun c s => (∀ sm : SemLoc sig, sm.isScoped .tc = false → s.sem ((c.tc : Thread nD τ), sm) = 0) ∧ s.mem ((c : Thread nD τ).loc main_arg1) = inW m c)
    (hY := fun c s' => final_read m c s')
    (hQ := fun _ h hs => ⟨fun c => ⟨((h c).1 3).trans (final_out m c), ((h c).1 0).trans ((dats m 0 c).arrAt_in (0 : Fin 4) rfl _), (h c).2.2.2,
        ((h c).1 1).trans ((dats m 0 c).arrAt_in (1 : Fin 4) rfl _), ((h c).1 2).trans ((dats m 0 c).arrAt_in (2 : Fin 4) rfl _)⟩,
      sem_eq_zero hs fun c => (h c).2.2.1⟩)

end Cert.A2A

end
-- ==== Proof.Equation.lean ====
/- The kernel's result and the reference's, over exact arithmetic: each device's rows of the one product, under one
   pointwise function. -/
module

public import proofs.«01_k».proof.Proof.Launch
public import proofs.«01_k».proof.Proof.Gen.ReferenceIdeal.Value
public import Idealize.ShloMosaic.PureOps.Ideal.Laws
public import Idealize.ShloMosaic.Lib.MatmulPlain
public import Idealize.ShloMosaic.Lib.ValueLayout
public import Idealize.ShloMosaic.Lib.Layout

@[expose] public section

noncomputable section

namespace Cert.A2A

open Cert.KernelIdeal Cert.KernelIdeal.Gen
open Idealize.ShloMosaic Idealize.ShloMosaic.ValueIdx

/-! ## The pointwise function -/

/-- The product's entry scaled, over one plus the exponential of minus it clipped. -/
def act (p q : Ideal .f32) : Ideal .f32 :=
  FloatOps.divf (FloatOps.mulf p q)
    (FloatOps.addf (FloatOps.ofBits .f32 0x3F800000#32) (FloatOps.exp (FloatOps.subf (FloatOps.ofBits .f32 0x00000000#32)
      (FloatOps.minimumf (FloatOps.ofBits .f32 0x42700000#32) (FloatOps.maximumf (FloatOps.ofBits .f32 0xC2700000#32) (FloatOps.mulf p q))))))

/-- The one product's entry at row `r` and column `s`. -/
def prod (X : Vec Ideal ⟨2, ![4096, 4096]⟩ .fp8e4m3) (W : Vec Ideal S4096x2048 .f32) (r : Fin 4096) (s : Fin 2048) : EReal :=
  ∑ k : Fin 4096, (X (ix2 r k) : EReal) * (W (ix2 k s) : EReal)

theorem zero_word : (FloatOps.ofBits .f32 0x00000000#32 : Ideal .f32) = (0 : EReal) := Ideal.ofBits_zero_f32

theorem one_index (i j : S1.Idx) : i = j := by
  funext a; apply Fin.ext
  match a with
  | ⟨0, h⟩ =>
    have hi : (i ⟨0, h⟩).val < 1 := (i ⟨0, h⟩).isLt
    have hj : (j ⟨0, h⟩).val < 1 := (j ⟨0, h⟩).isLt
    omega
/-- A one-word array spread over a larger shape reads its word everywhere. -/
theorem spread_apply {s s' : Shape} (v : Vec Ideal S1 .f32) (h : S1.ShapeCasts s) (h' : s.Broadcasts s') (i : s'.Idx) :
    broadcastTo s' (shapeCast s v h) h' i = word v :=
  congrArg v (one_index _ _)

/-! ## The reference -/

/-- The reference's result, entry by entry. -/
theorem ref_apply (X : Vec Ideal ⟨2, ![4096, 4096]⟩ .fp8e4m3) (W : Vec Ideal S4096x2048 .f32) (a b : Vec Ideal S1 .f32) (r : Fin 4096) (s : Fin 2048) :
    Cert.ReferenceIdeal.Gen.k0_pay1 (F := Ideal) X W a b (ix2 r s) = act (prod X W r s) (FloatOps.mulf (word a) (word b)) := by
  have hb : Cert.ReferenceIdeal.Gen.k0_pay1 (F := Ideal) X W a b (ix2 r s)
      = act (FloatOps.matmul (F := Ideal) (φ₁ := .f32) (φ₂ := .f32) (DotDims.plain 4096 4096 2048) none (fun i => X i) W (fun _ => FloatOps.ofBits .f32 0x00000000#32) (ix2 r s))
        (broadcastTo Cert.ReferenceIdeal.S4096x2048 (shapeCast Cert.ReferenceIdeal.S1x1 (fun i => FloatOps.mulf (F := Ideal) (φ := .f32) (a i) (b i)) Cert.ReferenceIdeal.Gen.shapeCasts_S1_S1x1)
          Cert.ReferenceIdeal.Gen.broadcasts_S1x1_S4096x2048 (ix2 r s)) := rfl
  rw [hb, Ideal.matmul_plain_apply, zero_word, zero_add, spread_apply]
  rfl

/-! ## The kernel -/

variable (x : Dev nD → Vec Ideal S4096x256 .fp8e4m3) (w : Dev nD → Vec Ideal S4096x2048 .f32) (sx sw : Dev nD → Vec Ideal S1 .f32) (c : Dev nD)

/-- The product of column `k` of the exchanged activations' row `r` and row `k` of the converted weights' column `s`. -/
def term (r : Fin 256) (s : Fin 2048) (k : Fin 4096) : EReal := (XT x c (ix2 r k) : EReal) * (WC w c (ix2 k s) : EReal)

theorem xtHi_apply (r : Fin 256) (k : Fin 2048) : xtHi x c (ix2 r k) = XT x c (ix2 r ⟨256 + (1792 + k.val), by omega⟩) := by
  refine congrArg (XT x c) (funext fun a => Fin.ext ?_)
  match a with
  | ⟨0, _⟩ => show 0 + 1 * r.val = r.val; omega
  | ⟨1, _⟩ => show 2048 + 1 * k.val = 256 + (1792 + k.val); omega
theorem xtOwn_apply (r : Fin 256) (k : Fin 256) : xtOwn x c (ix2 r k) = XT x c (ix2 r ⟨k.val, by omega⟩) := by
  refine congrArg (XT x c) (funext fun a => Fin.ext ?_)
  match a with
  | ⟨0, _⟩ => show 0 + 1 * r.val = r.val; omega
  | ⟨1, _⟩ => show 0 + 1 * k.val = k.val; omega
theorem xtLo_apply (r : Fin 256) (k : Fin 1792) : xtLo x c (ix2 r k) = XT x c (ix2 r ⟨256 + k.val, by omega⟩) := by
  refine congrArg (XT x c) (funext fun a => Fin.ext ?_)
  match a with
  | ⟨0, _⟩ => show 0 + 1 * r.val = r.val; omega
  | ⟨1, _⟩ => show 256 + 1 * k.val = 256 + k.val; omega
theorem wcHi_apply (k : Fin 2048) (s : Fin 2048) : wcHi w c (ix2 k s) = WC w c (ix2 ⟨256 + (1792 + k.val), by omega⟩ s) := by
  refine congrArg (WC w c) (funext fun a => Fin.ext ?_)
  match a with
  | ⟨0, _⟩ => show 2048 + 1 * k.val = 256 + (1792 + k.val); omega
  | ⟨1, _⟩ => show 0 + 1 * s.val = s.val; omega
theorem wcOwn_apply (k : Fin 256) (s : Fin 2048) : wcOwn w c (ix2 k s) = WC w c (ix2 ⟨k.val, by omega⟩ s) := by
  refine congrArg (WC w c) (funext fun a => Fin.ext ?_)
  match a with
  | ⟨0, _⟩ => show 0 + 1 * k.val = k.val; omega
  | ⟨1, _⟩ => show 0 + 1 * s.val = s.val; omega
theorem wcLo_apply (k : Fin 1792) (s : Fin 2048) : wcLo w c (ix2 k s) = WC w c (ix2 ⟨256 + k.val, by omega⟩ s) := by
  refine congrArg (WC w c) (funext fun a => Fin.ext ?_)
  match a with
  | ⟨0, _⟩ => show 256 + 1 * k.val = 256 + k.val; omega
  | ⟨1, _⟩ => show 0 + 1 * s.val = s.val; omega

/-- A sum over the 4096 columns, in the three stretches the kernel takes them in. -/
theorem sum_split (f : Fin 4096 → EReal) :
    (∑ k : Fin 2048, f ⟨256 + (1792 + k.val), by omega⟩) + (∑ k : Fin 256, f ⟨k.val, by omega⟩) + ∑ k : Fin 1792, f ⟨256 + k.val, by omega⟩ = ∑ k : Fin 4096, f k := by
  have h1 : (∑ k : Fin 4096, f k) = (∑ k : Fin 256, f ⟨k.val, by omega⟩) + ∑ k : Fin (1792 + 2048), f ⟨256 + k.val, by have := k.isLt; omega⟩ :=
    Fin.sum_univ_add (a := 256) (b := 1792 + 2048) f
  have h2 : (∑ k : Fin (1792 + 2048), f ⟨256 + k.val, by have := k.isLt; omega⟩)
      = (∑ k : Fin 1792, f ⟨256 + k.val, by omega⟩) + ∑ k : Fin 2048, f ⟨256 + (1792 + k.val), by omega⟩ :=
    Fin.sum_univ_add (a := 1792) (b := 2048) fun k : Fin (1792 + 2048) => f ⟨256 + k.val, by have := k.isLt; omega⟩
  rw [h1, h2]
  ac_rfl

/-- A device's result, entry by entry. -/
theorem out_apply (r : Fin 256) (s : Fin 2048) :
    OUT x w sx sw c (ix2 r s) = act (∑ k : Fin 4096, term x w c r s k) (FloatOps.mulf (word (sx c)) (word (sw c))) := by
  have hz : (fun _ => FloatOps.ofBits .f32 0x00000000#32 : FVec Ideal S256x2048 .f32) (ix2 r s) = (0 : EReal) := zero_word
  have h : OUT x w sx sw c (ix2 r s)
      = act (FloatOps.addf (FloatOps.addf
          (FloatOps.matmul (F := Ideal) (φ₁ := .fp8e4m3) (φ₂ := .fp8e4m3) (DotDims.plain 256 2048 2048) none (xtHi x c) (wcHi w c) (fun _ => FloatOps.ofBits .f32 0x00000000#32) (ix2 r s))
          (FloatOps.matmul (F := Ideal) (φ₁ := .fp8e4m3) (φ₂ := .fp8e4m3) (DotDims.plain 256 256 2048) none (xtOwn x c) (wcOwn w c) (fun _ => FloatOps.ofBits .f32 0x00000000#32) (ix2 r s)))
          (FloatOps.matmul (F := Ideal) (φ₁ := .fp8e4m3) (φ₂ := .fp8e4m3) (DotDims.plain 256 1792 2048) none (xtLo x c) (wcLo w c) (fun _ => FloatOps.ofBits .f32 0x00000000#32) (ix2 r s)))
        (FloatOps.mulf (word (sx c)) (word (sw c))) := by
    unfold OUT
    rw [show k0_pay20 (ACC x w c) = ACC x w c from shapeCast_self _ _]
    rfl
  rw [h, Ideal.matmul_plain_apply, Ideal.matmul_plain_apply, Ideal.matmul_plain_apply]
  simp only [xtHi_apply, xtOwn_apply, xtLo_apply, wcHi_apply, wcOwn_apply, wcLo_apply, zero_word, zero_add]
  exact congrArg (fun p => act p _) (sum_split (term x w c r s))

/-! ## The two, one -/

/-- Where device `c` finds column `k` of its exchanged activations. -/
def place (k : Fin 4096) : Fin 4096 :=
  ⟨256 * (up c (k.val / 256)).val + k.val % 256, by have := dev_lt (up c (k.val / 256)); have := Nat.mod_lt k.val (show 0 < 256 by decide); omega⟩
theorem place_injective : Function.Injective (place c) := fun k k' h => by
  have h := congrArg Fin.val h
  have hk := k.isLt; have hk' := k'.isLt; have hc := dev_lt c
  simp only [place, up_val] at h
  apply Fin.ext
  omega
/-- Every column is found once. -/
def placeEquiv : Fin 4096 ≃ Fin 4096 := Equiv.ofBijective (place c) (Finite.injective_iff_bijective.mp (place_injective c))

/-- Converting a block of weights changes nothing here. -/
theorem pay3_apply (v : Vec Ideal S1x256x2048 .f32) (i : Fin 256) (j : Fin 2048) : (k0_pay3 v (ix2 i j) : EReal) = v (ix3 (0 : Fin 1) i j) := by
  have h : k0_pay3 v = truncf .fp8e4m3 (shapeCast S256x2048 v shapeCasts_S1x256x2048_S256x2048) bitsLt_fp8e4m3_f32 := shapeCast_self _ _
  rw [h]
  exact shapeCast_1ab_ab_apply v _ i j

theorem term_eq (X : Vec Ideal ⟨2, ![4096, 4096]⟩ .fp8e4m3) (W : Vec Ideal S4096x2048 .f32)
    (hx : ∀ d : Dev nD, x d = Layout.block ⟨2, ![4096, 256]⟩ ⟨2, ![4096, 4096]⟩ 1 16 d X) (hw : w c = W) (r : Fin 256) (s : Fin 2048) (k : Fin 4096) :
    term x w c r s k = (X (ix2 ⟨256 * c.val + r.val, by have := dev_lt c; omega⟩ (place c k)) : EReal) * (W (ix2 (place c k) s) : EReal) := by
  unfold term
  congr 1
  · unfold XT
    rw [hx]
    refine congrArg X (funext fun a => Fin.ext ?_)
    match a with
    | ⟨0, _⟩ => rfl
    | ⟨1, _⟩ => show (up c (k.val / 256)).val * 256 + k.val % 256 = 256 * (up c (k.val / 256)).val + k.val % 256; omega
  · unfold WC
    refine (pay3_apply _ _ _).trans ?_
    unfold wBlk
    rw [hw]
    rfl

/-- Device `c`'s result is its block of rows of the reference's. -/
theorem out_eq (X : Vec Ideal ⟨2, ![4096, 4096]⟩ .fp8e4m3) (W : Vec Ideal S4096x2048 .f32) (a b : Vec Ideal S1 .f32)
    (hx : ∀ d : Dev nD, x d = Layout.block ⟨2, ![4096, 256]⟩ ⟨2, ![4096, 4096]⟩ 1 16 d X) (hw : w c = W) (ha : sx c = a) (hb : sw c = b) :
    OUT x w sx sw c = Layout.block ⟨2, ![256, 2048]⟩ ⟨2, ![4096, 2048]⟩ 0 16 c (Cert.ReferenceIdeal.Gen.k0_pay1 (F := Ideal) X W a b) := by
  funext i
  obtain ⟨r, s, rfl⟩ : ∃ (r : Fin 256) (s : Fin 2048), i = ix2 r s := ⟨i 0, i 1, eq_ix2 (n0 := 256) (n1 := 2048) i⟩
  rw [Layout.block_apply, out_apply]
  have hi (h : Layout.Tiles ⟨2, ![256, 2048]⟩ ⟨2, ![4096, 2048]⟩ 0 16) :
      h.idx c (ix2 r s) = ix2 (n0 := 4096) (n1 := 2048) ⟨256 * c.val + r.val, by have := dev_lt c; omega⟩ s := by
    funext a; apply Fin.ext
    match a with
    | ⟨0, _⟩ => show c.val * 256 + r.val = 256 * c.val + r.val; omega
    | ⟨1, _⟩ => rfl
  rw [hi, ref_apply, ha, hb]
  congr 1
  unfold prod
  rw [Finset.sum_congr rfl fun k _ => term_eq x w c X W hx hw r s k]
  exact (placeEquiv c).sum_comp fun k => (X (ix2 ⟨256 * c.val + r.val, by have := dev_lt c; omega⟩ k) : EReal) * (W (ix2 k s) : EReal)

end Cert.A2A

end
-- ==== Proof.lean ====
/- The five claims about the all-to-all product kernel: it runs, as printed and over exact arithmetic, leaving its
   arguments as they were and every semaphore at zero; so does the reference; and the kernel's devices end with the
   reference's result, each with its block of rows. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Launch
public import proofs.«01_k».proof.Proof.Equation

@[expose] public section

noncomputable section

namespace Cert.Proof

open Idealize.ShloMosaic Idealize.SL.Sem

/-- Over any float values the kernel runs, its arguments unchanged, its semaphores back at zero. -/
theorem quiet {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0 :=
  (θ_run Cert.KernelIdeal.defs _ _).mono (fun _ h => ⟨fun c => (h.1 c).2, h.2⟩) (Cert.A2A.run_main (F := F) m g)

/-- The kernel over exact arithmetic runs, its arguments unchanged, its semaphores back at zero. -/
theorem quiet_ideal : Cert.quiescent_KernelIdeal (hKernelIdeal := Cert.KernelIdeal.Gen.facts) := fun m g _ => quiet (F := Ideal) m g

set_option maxRecDepth 100000 in
/-- The kernel as printed has the body of the kernel read over exact arithmetic, at each label. -/
theorem bodies_same : Cert.Kernel.defs₀ (F := Bits) = Cert.KernelIdeal.defs₀ (F := Bits) := by
  funext pr l t
  match pr, l, t with
  | .tc, ⟨0, _⟩, t => exact rfl
  | .tc, ⟨n + 1, h⟩, _ => exact absurd h (Nat.not_lt.2 (Nat.le_add_left _ _))
  | .scScalar _, l, t => exact rfl
  | .scVector _ _, l, t => exact rfl

set_option maxRecDepth 100000 in
/-- So the two body tables are one. -/
theorem tables_same : Cert.Kernel.defs (F := Bits) = Cert.KernelIdeal.defs (F := Bits) :=
  congrArg (Pipeline.defs (Cert.KernelIdeal.pcfgs (F := Bits))) bodies_same

set_option maxHeartbeats 4000000 in
set_option maxRecDepth 100000 in
/-- The kernel as printed runs, its arguments unchanged, its semaphores back at zero: it is the same program, over
    machine words. -/
theorem quiet_kernel : Cert.quiescent_Kernel (hKernel := Cert.Kernel.Gen.facts) := by
  intro m g _
  rw [tables_same]
  exact quiet (F := Bits) m g

/-- So does the reference. -/
theorem quiet_reference : Cert.quiescent_ReferenceIdeal (hReferenceIdeal := Cert.ReferenceIdeal.Gen.facts) := fun m g _ =>
  Cert.ReferenceIdeal.Gen.frame m g

/-- Over exact arithmetic each device ends with its block of rows of the reference's result. -/
theorem same_result : Cert.algebraic_KernelIdeal_ReferenceIdeal (hKernelIdeal := Cert.KernelIdeal.Gen.facts) (hReferenceIdeal := Cert.ReferenceIdeal.Gen.facts) :=
  fun m g m' g' _ hargs => ⟨Cert.ReferenceIdeal.Gen.k0_pay1 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono
      (fun _ h c => ⟨(h.1 c).1.trans (Cert.A2A.out_eq _ _ _ _ c _ _ _ _ (fun d => (hargs d).1) (hargs c).2.1 (hargs c).2.2.1 (hargs c).2.2.2), (h.1 c).2⟩)
      (Cert.A2A.run_main (F := Ideal) m g),
    (θ_run Cert.ReferenceIdeal.defs _ _).mono (fun _ h => h 0) (Cert.ReferenceIdeal.Value.run m' g')⟩

/-- The five claims together. -/
theorem claim : Cert.Claim := ⟨Cert.Kernel.Gen.facts, Cert.KernelIdeal.Gen.facts, Cert.ReferenceIdeal.Gen.facts,
  quiet_kernel, quiet_ideal, quiet_reference, trivial, same_result⟩

end Cert.Proof

end
